-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 2048]⟩ ⟨2, ![4096, 2048]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S128x2048 : Shape := ⟨2, ![128, 2048]⟩
abbrev S4096x2048 : Shape := ⟨2, ![4096, 2048]⟩
abbrev S2x128x1024 : Shape := ⟨3, ![2, 128, 1024]⟩
abbrev S2 : Shape := ⟨1, ![2]⟩
abbrev S_ : Shape := ⟨0, ![]⟩
abbrev S128x128 : Shape := ⟨2, ![128, 128]⟩
abbrev S128x1024 : Shape := ⟨2, ![128, 1024]⟩
abbrev S1x128x1024 : Shape := ⟨3, ![1, 128, 1024]⟩
abbrev S1 : Shape := ⟨1, ![1]⟩
abbrev S1x1x1 : Shape := ⟨3, ![1, 1, 1]⟩
abbrev S64 : Shape := ⟨1, ![64]⟩
abbrev S1x64 : Shape := ⟨2, ![1, 64]⟩
abbrev S1x1 : Shape := ⟨2, ![1, 1]⟩

abbrev nBuf : Space → Nat
  | .hbm => 3
  | .vmem => 7
  | .smem => 0
  | _ => 0

abbrev bufTy : (tb : Table) → Fin (tcTables nBuf tb) → BufTy
  | .hbm, ⟨0, _⟩ => ⟨S4096x128, .f32⟩
  | .hbm, ⟨1, _⟩ => ⟨S128x2048, .f32⟩
  | .hbm, ⟨2, _⟩ => ⟨S4096x2048, .f32⟩
  | .local _ .vmem, ⟨0, _⟩ => ⟨S4096x128, .f32⟩
  | .local _ .vmem, ⟨1, _⟩ => ⟨S128x2048, .f32⟩
  | .local _ .vmem, ⟨2, _⟩ => ⟨S4096x2048, .f32⟩
  | .local _ .vmem, ⟨3, _⟩ => ⟨S2x128x1024, .f32⟩
  | .local _ .vmem, ⟨4, _⟩ => ⟨S2x128x1024, .f32⟩
  | .local _ .vmem, ⟨5, _⟩ => ⟨S2x128x1024, .f32⟩
  | .local _ .vmem, ⟨6, _⟩ => ⟨S2x128x1024, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 3 → Bool
  | ⟨0, _⟩ => true
  | ⟨1, _⟩ => true
  | ⟨2, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 3 11 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 2

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v205 : BitVec 32 := Scalar.muli v2 c128_i32
  let v206 : Index := Scalar.indexCast v205
  let c0_201 : Index := 0#32
  ![v206.toNat, 0]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_205 : BitVec 32 := 128#32
  let v212 : BitVec 32 := Scalar.muli v2 c128_i32_205
  let v213 : Index := Scalar.indexCast v212
  let c1024_206 : Index := 1024#32
  ![v213.toNat, 1024]
def k0_dev3 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_214 : BitVec 32 := 1#32
  let v219 : BitVec 32 := Scalar.muli v7 c1_i32_214
  let v220 : BitVec 32 := Scalar.addi c0_i32_215 v219
  v220.toNat
def k0_dev4 (d0 : Dev nD) : Nat :=
  let c0_i32_225 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_224 : BitVec 32 := 1#32
  let v229 : BitVec 32 := Scalar.muli v5 c1_i32_224
  let v230 : BitVec 32 := Scalar.addi c0_i32_225 v229
  v230.toNat
def k0_off3 (d0 : Dev nD) (c_m1_i32 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v267 : BitVec 32 := Scalar.addi v2 c_m1_i32
  let c96_i32 : BitVec 32 := 96#32
  let v268 : BitVec 32 := Scalar.addi v267 c96_i32
  let c32_i32_268 : BitVec 32 := 32#32
  let v269 : BitVec 32 := Scalar.remsi v268 c32_i32_268
  let c128_i32_272 : BitVec 32 := 128#32
  let v272 : BitVec 32 := Scalar.muli v269 c128_i32_272
  let v273 : Index := Scalar.indexCast v272
  let c0_273 : Index := 0#32
  ![v273.toNat, 0]
def k0_dev5 (d0 : Dev nD) : Nat :=
  let c0_i32_279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_278 : BitVec 32 := 1#32
  let v282 : BitVec 32 := Scalar.muli v5 c1_i32_278
  let v283 : BitVec 32 := Scalar.addi c0_i32_279 v282
  v283.toNat
def k0_off4 (d0 : Dev nD) (c1_i32_280 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v284 : BitVec 32 := Scalar.addi v2 c1_i32_280
  let c96_i32_281 : BitVec 32 := 96#32
  let v285 : BitVec 32 := Scalar.addi v284 c96_i32_281
  let c32_i32_282 : BitVec 32 := 32#32
  let v286 : BitVec 32 := Scalar.remsi v285 c32_i32_282
  let c128_i32_286 : BitVec 32 := 128#32
  let v289 : BitVec 32 := Scalar.muli v286 c128_i32_286
  let v290 : Index := Scalar.indexCast v289
  let c1024_287 : Index := 1024#32
  ![v290.toNat, 1024]
def k0_dev6 (d0 : Dev nD) : Nat :=
  let c0_i32_294 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_293 : BitVec 32 := 1#32
  let v299 : BitVec 32 := Scalar.muli v7 c1_i32_293
  let v300 : BitVec 32 := Scalar.addi c0_i32_294 v299
  v300.toNat
def k0_dev7 (d0 : Dev nD) : Nat :=
  let c0_i32_300 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_299 : BitVec 32 := 1#32
  let v301 : BitVec 32 := Scalar.muli v7 c1_i32_299
  let v302 : BitVec 32 := Scalar.addi c0_i32_300 v301
  v302.toNat
def k0_dev8 (d0 : Dev nD) : Nat :=
  let c0_i32_310 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_309 : BitVec 32 := 1#32
  let v311 : BitVec 32 := Scalar.muli v5 c1_i32_309
  let v312 : BitVec 32 := Scalar.addi c0_i32_310 v311
  v312.toNat
def k0_dev9 (d0 : Dev nD) : Nat :=
  let c0_i32_366 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_365 : BitVec 32 := 1#32
  let v364 : BitVec 32 := Scalar.muli v5 c1_i32_365
  let v365 : BitVec 32 := Scalar.addi c0_i32_366 v364
  v365.toNat
def k0_dev10 (d0 : Dev nD) : Nat :=
  let c0_i32_384 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_383 : BitVec 32 := 1#32
  let v383 : BitVec 32 := Scalar.muli v7 c1_i32_383
  let v384 : BitVec 32 := Scalar.addi c0_i32_384 v383
  v384.toNat
def k0_dev11 (d0 : Dev nD) : Nat :=
  let c0_i32_393 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_392 : BitVec 32 := 1#32
  let v387 : BitVec 32 := Scalar.muli v7 c1_i32_392
  let v388 : BitVec 32 := Scalar.addi c0_i32_393 v387
  v388.toNat
def k0_dev12 (d0 : Dev nD) : Nat :=
  let c0_i32_403 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_402 : BitVec 32 := 1#32
  let v397 : BitVec 32 := Scalar.muli v5 c1_i32_402
  let v398 : BitVec 32 := Scalar.addi c0_i32_403 v397
  v398.toNat
def k0_dev13 (d0 : Dev nD) : Nat :=
  let c0_i32_459 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_458 : BitVec 32 := 1#32
  let v450 : BitVec 32 := Scalar.muli v5 c1_i32_458
  let v451 : BitVec 32 := Scalar.addi c0_i32_459 v450
  v451.toNat
def k0_dev14 (d0 : Dev nD) : Nat :=
  let c0_i32_476 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_475 : BitVec 32 := 1#32
  let v469 : BitVec 32 := Scalar.muli v7 c1_i32_475
  let v470 : BitVec 32 := Scalar.addi c0_i32_476 v469
  v470.toNat
def k0_dev15 (d0 : Dev nD) : Nat :=
  let c0_i32_485 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_484 : BitVec 32 := 1#32
  let v473 : BitVec 32 := Scalar.muli v7 c1_i32_484
  let v474 : BitVec 32 := Scalar.addi c0_i32_485 v473
  v474.toNat
def k0_dev16 (d0 : Dev nD) : Nat :=
  let c0_i32_495 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_494 : BitVec 32 := 1#32
  let v483 : BitVec 32 := Scalar.muli v5 c1_i32_494
  let v484 : BitVec 32 := Scalar.addi c0_i32_495 v483
  v484.toNat
def k0_dev17 (d0 : Dev nD) : Nat :=
  let c0_i32_551 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_550 : BitVec 32 := 1#32
  let v536 : BitVec 32 := Scalar.muli v5 c1_i32_550
  let v537 : BitVec 32 := Scalar.addi c0_i32_551 v536
  v537.toNat
def k0_dev18 (d0 : Dev nD) : Nat :=
  let c0_i32_568 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_567 : BitVec 32 := 1#32
  let v555 : BitVec 32 := Scalar.muli v7 c1_i32_567
  let v556 : BitVec 32 := Scalar.addi c0_i32_568 v555
  v556.toNat
def k0_dev19 (d0 : Dev nD) : Nat :=
  let c0_i32_577 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_576 : BitVec 32 := 1#32
  let v559 : BitVec 32 := Scalar.muli v7 c1_i32_576
  let v560 : BitVec 32 := Scalar.addi c0_i32_577 v559
  v560.toNat
def k0_dev20 (d0 : Dev nD) : Nat :=
  let c0_i32_587 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_586 : BitVec 32 := 1#32
  let v569 : BitVec 32 := Scalar.muli v5 c1_i32_586
  let v570 : BitVec 32 := Scalar.addi c0_i32_587 v569
  v570.toNat
def k0_dev21 (d0 : Dev nD) : Nat :=
  let c0_i32_643 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_642 : BitVec 32 := 1#32
  let v622 : BitVec 32 := Scalar.muli v5 c1_i32_642
  let v623 : BitVec 32 := Scalar.addi c0_i32_643 v622
  v623.toNat
def k0_dev22 (d0 : Dev nD) : Nat :=
  let c0_i32_660 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_659 : BitVec 32 := 1#32
  let v641 : BitVec 32 := Scalar.muli v7 c1_i32_659
  let v642 : BitVec 32 := Scalar.addi c0_i32_660 v641
  v642.toNat
def k0_dev23 (d0 : Dev nD) : Nat :=
  let c0_i32_669 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_668 : BitVec 32 := 1#32
  let v645 : BitVec 32 := Scalar.muli v7 c1_i32_668
  let v646 : BitVec 32 := Scalar.addi c0_i32_669 v645
  v646.toNat
def k0_dev24 (d0 : Dev nD) : Nat :=
  let c0_i32_679 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_678 : BitVec 32 := 1#32
  let v655 : BitVec 32 := Scalar.muli v5 c1_i32_678
  let v656 : BitVec 32 := Scalar.addi c0_i32_679 v655
  v656.toNat
def k0_dev25 (d0 : Dev nD) : Nat :=
  let c0_i32_735 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_734 : BitVec 32 := 1#32
  let v708 : BitVec 32 := Scalar.muli v5 c1_i32_734
  let v709 : BitVec 32 := Scalar.addi c0_i32_735 v708
  v709.toNat
def k0_dev26 (d0 : Dev nD) : Nat :=
  let c0_i32_752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_751 : BitVec 32 := 1#32
  let v727 : BitVec 32 := Scalar.muli v7 c1_i32_751
  let v728 : BitVec 32 := Scalar.addi c0_i32_752 v727
  v728.toNat
def k0_dev27 (d0 : Dev nD) : Nat :=
  let c0_i32_761 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_760 : BitVec 32 := 1#32
  let v731 : BitVec 32 := Scalar.muli v7 c1_i32_760
  let v732 : BitVec 32 := Scalar.addi c0_i32_761 v731
  v732.toNat
def k0_dev28 (d0 : Dev nD) : Nat :=
  let c0_i32_771 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_770 : BitVec 32 := 1#32
  let v741 : BitVec 32 := Scalar.muli v5 c1_i32_770
  let v742 : BitVec 32 := Scalar.addi c0_i32_771 v741
  v742.toNat
def k0_dev29 (d0 : Dev nD) : Nat :=
  let c0_i32_827 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_826 : BitVec 32 := 1#32
  let v794 : BitVec 32 := Scalar.muli v5 c1_i32_826
  let v795 : BitVec 32 := Scalar.addi c0_i32_827 v794
  v795.toNat
def k0_dev30 (d0 : Dev nD) : Nat :=
  let c0_i32_844 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_843 : BitVec 32 := 1#32
  let v813 : BitVec 32 := Scalar.muli v7 c1_i32_843
  let v814 : BitVec 32 := Scalar.addi c0_i32_844 v813
  v814.toNat
def k0_dev31 (d0 : Dev nD) : Nat :=
  let c0_i32_853 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_852 : BitVec 32 := 1#32
  let v817 : BitVec 32 := Scalar.muli v7 c1_i32_852
  let v818 : BitVec 32 := Scalar.addi c0_i32_853 v817
  v818.toNat
def k0_dev32 (d0 : Dev nD) : Nat :=
  let c0_i32_863 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_862 : BitVec 32 := 1#32
  let v827 : BitVec 32 := Scalar.muli v5 c1_i32_862
  let v828 : BitVec 32 := Scalar.addi c0_i32_863 v827
  v828.toNat
def k0_dev33 (d0 : Dev nD) : Nat :=
  let c0_i32_919 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_918 : BitVec 32 := 1#32
  let v880 : BitVec 32 := Scalar.muli v5 c1_i32_918
  let v881 : BitVec 32 := Scalar.addi c0_i32_919 v880
  v881.toNat
def k0_dev34 (d0 : Dev nD) : Nat :=
  let c0_i32_936 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_935 : BitVec 32 := 1#32
  let v899 : BitVec 32 := Scalar.muli v7 c1_i32_935
  let v900 : BitVec 32 := Scalar.addi c0_i32_936 v899
  v900.toNat
def k0_dev35 (d0 : Dev nD) : Nat :=
  let c0_i32_945 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_944 : BitVec 32 := 1#32
  let v903 : BitVec 32 := Scalar.muli v7 c1_i32_944
  let v904 : BitVec 32 := Scalar.addi c0_i32_945 v903
  v904.toNat
def k0_dev36 (d0 : Dev nD) : Nat :=
  let c0_i32_955 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_954 : BitVec 32 := 1#32
  let v913 : BitVec 32 := Scalar.muli v5 c1_i32_954
  let v914 : BitVec 32 := Scalar.addi c0_i32_955 v913
  v914.toNat
def k0_dev37 (d0 : Dev nD) : Nat :=
  let c0_i32_1011 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1010 : BitVec 32 := 1#32
  let v966 : BitVec 32 := Scalar.muli v5 c1_i32_1010
  let v967 : BitVec 32 := Scalar.addi c0_i32_1011 v966
  v967.toNat
def k0_dev38 (d0 : Dev nD) : Nat :=
  let c0_i32_1028 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1027 : BitVec 32 := 1#32
  let v985 : BitVec 32 := Scalar.muli v7 c1_i32_1027
  let v986 : BitVec 32 := Scalar.addi c0_i32_1028 v985
  v986.toNat
def k0_dev39 (d0 : Dev nD) : Nat :=
  let c0_i32_1037 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1036 : BitVec 32 := 1#32
  let v989 : BitVec 32 := Scalar.muli v7 c1_i32_1036
  let v990 : BitVec 32 := Scalar.addi c0_i32_1037 v989
  v990.toNat
def k0_dev40 (d0 : Dev nD) : Nat :=
  let c0_i32_1047 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1046 : BitVec 32 := 1#32
  let v999 : BitVec 32 := Scalar.muli v5 c1_i32_1046
  let v1000 : BitVec 32 := Scalar.addi c0_i32_1047 v999
  v1000.toNat
def k0_dev41 (d0 : Dev nD) : Nat :=
  let c0_i32_1103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1102 : BitVec 32 := 1#32
  let v1052 : BitVec 32 := Scalar.muli v5 c1_i32_1102
  let v1053 : BitVec 32 := Scalar.addi c0_i32_1103 v1052
  v1053.toNat
def k0_dev42 (d0 : Dev nD) : Nat :=
  let c0_i32_1120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1119 : BitVec 32 := 1#32
  let v1071 : BitVec 32 := Scalar.muli v7 c1_i32_1119
  let v1072 : BitVec 32 := Scalar.addi c0_i32_1120 v1071
  v1072.toNat
def k0_dev43 (d0 : Dev nD) : Nat :=
  let c0_i32_1129 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1128 : BitVec 32 := 1#32
  let v1075 : BitVec 32 := Scalar.muli v7 c1_i32_1128
  let v1076 : BitVec 32 := Scalar.addi c0_i32_1129 v1075
  v1076.toNat
def k0_dev44 (d0 : Dev nD) : Nat :=
  let c0_i32_1139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1138 : BitVec 32 := 1#32
  let v1085 : BitVec 32 := Scalar.muli v5 c1_i32_1138
  let v1086 : BitVec 32 := Scalar.addi c0_i32_1139 v1085
  v1086.toNat
def k0_dev45 (d0 : Dev nD) : Nat :=
  let c0_i32_1195 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1194 : BitVec 32 := 1#32
  let v1138 : BitVec 32 := Scalar.muli v5 c1_i32_1194
  let v1139 : BitVec 32 := Scalar.addi c0_i32_1195 v1138
  v1139.toNat
def k0_dev46 (d0 : Dev nD) : Nat :=
  let c0_i32_1212 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1211 : BitVec 32 := 1#32
  let v1157 : BitVec 32 := Scalar.muli v7 c1_i32_1211
  let v1158 : BitVec 32 := Scalar.addi c0_i32_1212 v1157
  v1158.toNat
def k0_dev47 (d0 : Dev nD) : Nat :=
  let c0_i32_1221 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1220 : BitVec 32 := 1#32
  let v1161 : BitVec 32 := Scalar.muli v7 c1_i32_1220
  let v1162 : BitVec 32 := Scalar.addi c0_i32_1221 v1161
  v1162.toNat
def k0_dev48 (d0 : Dev nD) : Nat :=
  let c0_i32_1231 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1230 : BitVec 32 := 1#32
  let v1171 : BitVec 32 := Scalar.muli v5 c1_i32_1230
  let v1172 : BitVec 32 := Scalar.addi c0_i32_1231 v1171
  v1172.toNat
def k0_dev49 (d0 : Dev nD) : Nat :=
  let c0_i32_1287 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1286 : BitVec 32 := 1#32
  let v1224 : BitVec 32 := Scalar.muli v5 c1_i32_1286
  let v1225 : BitVec 32 := Scalar.addi c0_i32_1287 v1224
  v1225.toNat
def k0_dev50 (d0 : Dev nD) : Nat :=
  let c0_i32_1304 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1303 : BitVec 32 := 1#32
  let v1243 : BitVec 32 := Scalar.muli v7 c1_i32_1303
  let v1244 : BitVec 32 := Scalar.addi c0_i32_1304 v1243
  v1244.toNat
def k0_dev51 (d0 : Dev nD) : Nat :=
  let c0_i32_1313 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1312 : BitVec 32 := 1#32
  let v1247 : BitVec 32 := Scalar.muli v7 c1_i32_1312
  let v1248 : BitVec 32 := Scalar.addi c0_i32_1313 v1247
  v1248.toNat
def k0_dev52 (d0 : Dev nD) : Nat :=
  let c0_i32_1323 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1322 : BitVec 32 := 1#32
  let v1257 : BitVec 32 := Scalar.muli v5 c1_i32_1322
  let v1258 : BitVec 32 := Scalar.addi c0_i32_1323 v1257
  v1258.toNat
def k0_dev53 (d0 : Dev nD) : Nat :=
  let c0_i32_1379 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1378 : BitVec 32 := 1#32
  let v1310 : BitVec 32 := Scalar.muli v5 c1_i32_1378
  let v1311 : BitVec 32 := Scalar.addi c0_i32_1379 v1310
  v1311.toNat
def k0_dev54 (d0 : Dev nD) : Nat :=
  let c0_i32_1396 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1395 : BitVec 32 := 1#32
  let v1329 : BitVec 32 := Scalar.muli v7 c1_i32_1395
  let v1330 : BitVec 32 := Scalar.addi c0_i32_1396 v1329
  v1330.toNat
def k0_dev55 (d0 : Dev nD) : Nat :=
  let c0_i32_1405 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1404 : BitVec 32 := 1#32
  let v1333 : BitVec 32 := Scalar.muli v7 c1_i32_1404
  let v1334 : BitVec 32 := Scalar.addi c0_i32_1405 v1333
  v1334.toNat
def k0_dev56 (d0 : Dev nD) : Nat :=
  let c0_i32_1415 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1414 : BitVec 32 := 1#32
  let v1343 : BitVec 32 := Scalar.muli v5 c1_i32_1414
  let v1344 : BitVec 32 := Scalar.addi c0_i32_1415 v1343
  v1344.toNat
def k0_dev57 (d0 : Dev nD) : Nat :=
  let c0_i32_1471 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1470 : BitVec 32 := 1#32
  let v1396 : BitVec 32 := Scalar.muli v5 c1_i32_1470
  let v1397 : BitVec 32 := Scalar.addi c0_i32_1471 v1396
  v1397.toNat
def k0_dev58 (d0 : Dev nD) : Nat :=
  let c0_i32_1488 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1487 : BitVec 32 := 1#32
  let v1415 : BitVec 32 := Scalar.muli v7 c1_i32_1487
  let v1416 : BitVec 32 := Scalar.addi c0_i32_1488 v1415
  v1416.toNat
def k0_dev59 (d0 : Dev nD) : Nat :=
  let c0_i32_1497 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1496 : BitVec 32 := 1#32
  let v1419 : BitVec 32 := Scalar.muli v7 c1_i32_1496
  let v1420 : BitVec 32 := Scalar.addi c0_i32_1497 v1419
  v1420.toNat
def k0_dev60 (d0 : Dev nD) : Nat :=
  let c0_i32_1507 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1506 : BitVec 32 := 1#32
  let v1429 : BitVec 32 := Scalar.muli v5 c1_i32_1506
  let v1430 : BitVec 32 := Scalar.addi c0_i32_1507 v1429
  v1430.toNat
def k0_dev61 (d0 : Dev nD) : Nat :=
  let c0_i32_1563 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1562 : BitVec 32 := 1#32
  let v1482 : BitVec 32 := Scalar.muli v5 c1_i32_1562
  let v1483 : BitVec 32 := Scalar.addi c0_i32_1563 v1482
  v1483.toNat
def k0_dev62 (d0 : Dev nD) : Nat :=
  let c0_i32_1580 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1579 : BitVec 32 := 1#32
  let v1501 : BitVec 32 := Scalar.muli v7 c1_i32_1579
  let v1502 : BitVec 32 := Scalar.addi c0_i32_1580 v1501
  v1502.toNat
def k0_dev63 (d0 : Dev nD) : Nat :=
  let c0_i32_1589 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1588 : BitVec 32 := 1#32
  let v1505 : BitVec 32 := Scalar.muli v7 c1_i32_1588
  let v1506 : BitVec 32 := Scalar.addi c0_i32_1589 v1505
  v1506.toNat
def k0_dev64 (d0 : Dev nD) : Nat :=
  let c0_i32_1599 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1598 : BitVec 32 := 1#32
  let v1515 : BitVec 32 := Scalar.muli v5 c1_i32_1598
  let v1516 : BitVec 32 := Scalar.addi c0_i32_1599 v1515
  v1516.toNat
def k0_dev65 (d0 : Dev nD) : Nat :=
  let c0_i32_1655 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1654 : BitVec 32 := 1#32
  let v1568 : BitVec 32 := Scalar.muli v5 c1_i32_1654
  let v1569 : BitVec 32 := Scalar.addi c0_i32_1655 v1568
  v1569.toNat
def k0_dev66 (d0 : Dev nD) : Nat :=
  let c0_i32_1672 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1671 : BitVec 32 := 1#32
  let v1587 : BitVec 32 := Scalar.muli v7 c1_i32_1671
  let v1588 : BitVec 32 := Scalar.addi c0_i32_1672 v1587
  v1588.toNat
def k0_dev67 (d0 : Dev nD) : Nat :=
  let c0_i32_1681 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1680 : BitVec 32 := 1#32
  let v1591 : BitVec 32 := Scalar.muli v7 c1_i32_1680
  let v1592 : BitVec 32 := Scalar.addi c0_i32_1681 v1591
  v1592.toNat
def k0_dev68 (d0 : Dev nD) : Nat :=
  let c0_i32_1691 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1690 : BitVec 32 := 1#32
  let v1601 : BitVec 32 := Scalar.muli v5 c1_i32_1690
  let v1602 : BitVec 32 := Scalar.addi c0_i32_1691 v1601
  v1602.toNat
def k0_dev69 (d0 : Dev nD) : Nat :=
  let c0_i32_1747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1746 : BitVec 32 := 1#32
  let v1654 : BitVec 32 := Scalar.muli v5 c1_i32_1746
  let v1655 : BitVec 32 := Scalar.addi c0_i32_1747 v1654
  v1655.toNat
def k0_dev70 (d0 : Dev nD) : Nat :=
  let c0_i32_1764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1763 : BitVec 32 := 1#32
  let v1673 : BitVec 32 := Scalar.muli v7 c1_i32_1763
  let v1674 : BitVec 32 := Scalar.addi c0_i32_1764 v1673
  v1674.toNat
def k0_dev71 (d0 : Dev nD) : Nat :=
  let c0_i32_1773 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1772 : BitVec 32 := 1#32
  let v1677 : BitVec 32 := Scalar.muli v7 c1_i32_1772
  let v1678 : BitVec 32 := Scalar.addi c0_i32_1773 v1677
  v1678.toNat
def k0_dev72 (d0 : Dev nD) : Nat :=
  let c0_i32_1783 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1782 : BitVec 32 := 1#32
  let v1687 : BitVec 32 := Scalar.muli v5 c1_i32_1782
  let v1688 : BitVec 32 := Scalar.addi c0_i32_1783 v1687
  v1688.toNat
def k0_dev73 (d0 : Dev nD) : Nat :=
  let c0_i32_1839 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1838 : BitVec 32 := 1#32
  let v1740 : BitVec 32 := Scalar.muli v5 c1_i32_1838
  let v1741 : BitVec 32 := Scalar.addi c0_i32_1839 v1740
  v1741.toNat
def k0_dev74 (d0 : Dev nD) : Nat :=
  let c0_i32_1856 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1855 : BitVec 32 := 1#32
  let v1759 : BitVec 32 := Scalar.muli v7 c1_i32_1855
  let v1760 : BitVec 32 := Scalar.addi c0_i32_1856 v1759
  v1760.toNat
def k0_dev75 (d0 : Dev nD) : Nat :=
  let c0_i32_1865 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1864 : BitVec 32 := 1#32
  let v1763 : BitVec 32 := Scalar.muli v7 c1_i32_1864
  let v1764 : BitVec 32 := Scalar.addi c0_i32_1865 v1763
  v1764.toNat
def k0_dev76 (d0 : Dev nD) : Nat :=
  let c0_i32_1875 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1874 : BitVec 32 := 1#32
  let v1773 : BitVec 32 := Scalar.muli v5 c1_i32_1874
  let v1774 : BitVec 32 := Scalar.addi c0_i32_1875 v1773
  v1774.toNat
def k0_dev77 (d0 : Dev nD) : Nat :=
  let c0_i32_1931 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1930 : BitVec 32 := 1#32
  let v1826 : BitVec 32 := Scalar.muli v5 c1_i32_1930
  let v1827 : BitVec 32 := Scalar.addi c0_i32_1931 v1826
  v1827.toNat
def k0_dev78 (d0 : Dev nD) : Nat :=
  let c0_i32_1948 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1947 : BitVec 32 := 1#32
  let v1845 : BitVec 32 := Scalar.muli v7 c1_i32_1947
  let v1846 : BitVec 32 := Scalar.addi c0_i32_1948 v1845
  v1846.toNat
def k0_dev79 (d0 : Dev nD) : Nat :=
  let c0_i32_1957 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1956 : BitVec 32 := 1#32
  let v1849 : BitVec 32 := Scalar.muli v7 c1_i32_1956
  let v1850 : BitVec 32 := Scalar.addi c0_i32_1957 v1849
  v1850.toNat
def k0_dev80 (d0 : Dev nD) : Nat :=
  let c0_i32_1967 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1966 : BitVec 32 := 1#32
  let v1859 : BitVec 32 := Scalar.muli v5 c1_i32_1966
  let v1860 : BitVec 32 := Scalar.addi c0_i32_1967 v1859
  v1860.toNat
def k0_dev81 (d0 : Dev nD) : Nat :=
  let c0_i32_2023 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2022 : BitVec 32 := 1#32
  let v1912 : BitVec 32 := Scalar.muli v5 c1_i32_2022
  let v1913 : BitVec 32 := Scalar.addi c0_i32_2023 v1912
  v1913.toNat
def k0_dev82 (d0 : Dev nD) : Nat :=
  let c0_i32_2040 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2039 : BitVec 32 := 1#32
  let v1931 : BitVec 32 := Scalar.muli v7 c1_i32_2039
  let v1932 : BitVec 32 := Scalar.addi c0_i32_2040 v1931
  v1932.toNat
def k0_dev83 (d0 : Dev nD) : Nat :=
  let c0_i32_2049 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2048 : BitVec 32 := 1#32
  let v1935 : BitVec 32 := Scalar.muli v7 c1_i32_2048
  let v1936 : BitVec 32 := Scalar.addi c0_i32_2049 v1935
  v1936.toNat
def k0_dev84 (d0 : Dev nD) : Nat :=
  let c0_i32_2059 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2058 : BitVec 32 := 1#32
  let v1945 : BitVec 32 := Scalar.muli v5 c1_i32_2058
  let v1946 : BitVec 32 := Scalar.addi c0_i32_2059 v1945
  v1946.toNat
def k0_dev85 (d0 : Dev nD) : Nat :=
  let c0_i32_2115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2114 : BitVec 32 := 1#32
  let v1998 : BitVec 32 := Scalar.muli v5 c1_i32_2114
  let v1999 : BitVec 32 := Scalar.addi c0_i32_2115 v1998
  v1999.toNat
def k0_dev86 (d0 : Dev nD) : Nat :=
  let c0_i32_2132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2131 : BitVec 32 := 1#32
  let v2017 : BitVec 32 := Scalar.muli v7 c1_i32_2131
  let v2018 : BitVec 32 := Scalar.addi c0_i32_2132 v2017
  v2018.toNat
def k0_dev87 (d0 : Dev nD) : Nat :=
  let c0_i32_2141 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2140 : BitVec 32 := 1#32
  let v2021 : BitVec 32 := Scalar.muli v7 c1_i32_2140
  let v2022 : BitVec 32 := Scalar.addi c0_i32_2141 v2021
  v2022.toNat
def k0_dev88 (d0 : Dev nD) : Nat :=
  let c0_i32_2151 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2150 : BitVec 32 := 1#32
  let v2031 : BitVec 32 := Scalar.muli v5 c1_i32_2150
  let v2032 : BitVec 32 := Scalar.addi c0_i32_2151 v2031
  v2032.toNat
def k0_dev89 (d0 : Dev nD) : Nat :=
  let c0_i32_2207 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2206 : BitVec 32 := 1#32
  let v2084 : BitVec 32 := Scalar.muli v5 c1_i32_2206
  let v2085 : BitVec 32 := Scalar.addi c0_i32_2207 v2084
  v2085.toNat
def k0_dev90 (d0 : Dev nD) : Nat :=
  let c0_i32_2224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2223 : BitVec 32 := 1#32
  let v2103 : BitVec 32 := Scalar.muli v7 c1_i32_2223
  let v2104 : BitVec 32 := Scalar.addi c0_i32_2224 v2103
  v2104.toNat
def k0_dev91 (d0 : Dev nD) : Nat :=
  let c0_i32_2233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2232 : BitVec 32 := 1#32
  let v2107 : BitVec 32 := Scalar.muli v7 c1_i32_2232
  let v2108 : BitVec 32 := Scalar.addi c0_i32_2233 v2107
  v2108.toNat
def k0_dev92 (d0 : Dev nD) : Nat :=
  let c0_i32_2243 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2242 : BitVec 32 := 1#32
  let v2117 : BitVec 32 := Scalar.muli v5 c1_i32_2242
  let v2118 : BitVec 32 := Scalar.addi c0_i32_2243 v2117
  v2118.toNat
def k0_dev93 (d0 : Dev nD) : Nat :=
  let c0_i32_2299 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2298 : BitVec 32 := 1#32
  let v2170 : BitVec 32 := Scalar.muli v5 c1_i32_2298
  let v2171 : BitVec 32 := Scalar.addi c0_i32_2299 v2170
  v2171.toNat
def k0_dev94 (d0 : Dev nD) : Nat :=
  let c0_i32_2316 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2315 : BitVec 32 := 1#32
  let v2189 : BitVec 32 := Scalar.muli v7 c1_i32_2315
  let v2190 : BitVec 32 := Scalar.addi c0_i32_2316 v2189
  v2190.toNat
def k0_dev95 (d0 : Dev nD) : Nat :=
  let c0_i32_2325 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2324 : BitVec 32 := 1#32
  let v2193 : BitVec 32 := Scalar.muli v7 c1_i32_2324
  let v2194 : BitVec 32 := Scalar.addi c0_i32_2325 v2193
  v2194.toNat
def k0_dev96 (d0 : Dev nD) : Nat :=
  let c0_i32_2335 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2334 : BitVec 32 := 1#32
  let v2203 : BitVec 32 := Scalar.muli v5 c1_i32_2334
  let v2204 : BitVec 32 := Scalar.addi c0_i32_2335 v2203
  v2204.toNat
def k0_dev97 (d0 : Dev nD) : Nat :=
  let c0_i32_2391 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2390 : BitVec 32 := 1#32
  let v2256 : BitVec 32 := Scalar.muli v5 c1_i32_2390
  let v2257 : BitVec 32 := Scalar.addi c0_i32_2391 v2256
  v2257.toNat
def k0_dev98 (d0 : Dev nD) : Nat :=
  let c0_i32_2408 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2407 : BitVec 32 := 1#32
  let v2275 : BitVec 32 := Scalar.muli v7 c1_i32_2407
  let v2276 : BitVec 32 := Scalar.addi c0_i32_2408 v2275
  v2276.toNat
def k0_dev99 (d0 : Dev nD) : Nat :=
  let c0_i32_2417 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2416 : BitVec 32 := 1#32
  let v2279 : BitVec 32 := Scalar.muli v7 c1_i32_2416
  let v2280 : BitVec 32 := Scalar.addi c0_i32_2417 v2279
  v2280.toNat
def k0_dev100 (d0 : Dev nD) : Nat :=
  let c0_i32_2427 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2426 : BitVec 32 := 1#32
  let v2289 : BitVec 32 := Scalar.muli v5 c1_i32_2426
  let v2290 : BitVec 32 := Scalar.addi c0_i32_2427 v2289
  v2290.toNat
def k0_dev101 (d0 : Dev nD) : Nat :=
  let c0_i32_2483 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2482 : BitVec 32 := 1#32
  let v2342 : BitVec 32 := Scalar.muli v5 c1_i32_2482
  let v2343 : BitVec 32 := Scalar.addi c0_i32_2483 v2342
  v2343.toNat
def k0_dev102 (d0 : Dev nD) : Nat :=
  let c0_i32_2500 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2499 : BitVec 32 := 1#32
  let v2361 : BitVec 32 := Scalar.muli v7 c1_i32_2499
  let v2362 : BitVec 32 := Scalar.addi c0_i32_2500 v2361
  v2362.toNat
def k0_dev103 (d0 : Dev nD) : Nat :=
  let c0_i32_2509 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2508 : BitVec 32 := 1#32
  let v2365 : BitVec 32 := Scalar.muli v7 c1_i32_2508
  let v2366 : BitVec 32 := Scalar.addi c0_i32_2509 v2365
  v2366.toNat
def k0_dev104 (d0 : Dev nD) : Nat :=
  let c0_i32_2519 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2518 : BitVec 32 := 1#32
  let v2375 : BitVec 32 := Scalar.muli v5 c1_i32_2518
  let v2376 : BitVec 32 := Scalar.addi c0_i32_2519 v2375
  v2376.toNat
def k0_dev105 (d0 : Dev nD) : Nat :=
  let c0_i32_2575 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2574 : BitVec 32 := 1#32
  let v2428 : BitVec 32 := Scalar.muli v5 c1_i32_2574
  let v2429 : BitVec 32 := Scalar.addi c0_i32_2575 v2428
  v2429.toNat
def k0_dev106 (d0 : Dev nD) : Nat :=
  let c0_i32_2592 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2591 : BitVec 32 := 1#32
  let v2447 : BitVec 32 := Scalar.muli v7 c1_i32_2591
  let v2448 : BitVec 32 := Scalar.addi c0_i32_2592 v2447
  v2448.toNat
def k0_dev107 (d0 : Dev nD) : Nat :=
  let c0_i32_2601 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2600 : BitVec 32 := 1#32
  let v2451 : BitVec 32 := Scalar.muli v7 c1_i32_2600
  let v2452 : BitVec 32 := Scalar.addi c0_i32_2601 v2451
  v2452.toNat
def k0_dev108 (d0 : Dev nD) : Nat :=
  let c0_i32_2611 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2610 : BitVec 32 := 1#32
  let v2461 : BitVec 32 := Scalar.muli v5 c1_i32_2610
  let v2462 : BitVec 32 := Scalar.addi c0_i32_2611 v2461
  v2462.toNat
def k0_dev109 (d0 : Dev nD) : Nat :=
  let c0_i32_2667 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2666 : BitVec 32 := 1#32
  let v2514 : BitVec 32 := Scalar.muli v5 c1_i32_2666
  let v2515 : BitVec 32 := Scalar.addi c0_i32_2667 v2514
  v2515.toNat
def k0_dev110 (d0 : Dev nD) : Nat :=
  let c0_i32_2684 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2683 : BitVec 32 := 1#32
  let v2533 : BitVec 32 := Scalar.muli v7 c1_i32_2683
  let v2534 : BitVec 32 := Scalar.addi c0_i32_2684 v2533
  v2534.toNat
def k0_dev111 (d0 : Dev nD) : Nat :=
  let c0_i32_2693 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2692 : BitVec 32 := 1#32
  let v2537 : BitVec 32 := Scalar.muli v7 c1_i32_2692
  let v2538 : BitVec 32 := Scalar.addi c0_i32_2693 v2537
  v2538.toNat
def k0_dev112 (d0 : Dev nD) : Nat :=
  let c0_i32_2703 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2702 : BitVec 32 := 1#32
  let v2547 : BitVec 32 := Scalar.muli v5 c1_i32_2702
  let v2548 : BitVec 32 := Scalar.addi c0_i32_2703 v2547
  v2548.toNat
def k0_dev113 (d0 : Dev nD) : Nat :=
  let c0_i32_2759 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2758 : BitVec 32 := 1#32
  let v2600 : BitVec 32 := Scalar.muli v5 c1_i32_2758
  let v2601 : BitVec 32 := Scalar.addi c0_i32_2759 v2600
  v2601.toNat
def k0_dev114 (d0 : Dev nD) : Nat :=
  let c0_i32_2776 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2775 : BitVec 32 := 1#32
  let v2619 : BitVec 32 := Scalar.muli v7 c1_i32_2775
  let v2620 : BitVec 32 := Scalar.addi c0_i32_2776 v2619
  v2620.toNat
def k0_dev115 (d0 : Dev nD) : Nat :=
  let c0_i32_2785 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2784 : BitVec 32 := 1#32
  let v2623 : BitVec 32 := Scalar.muli v7 c1_i32_2784
  let v2624 : BitVec 32 := Scalar.addi c0_i32_2785 v2623
  v2624.toNat
def k0_dev116 (d0 : Dev nD) : Nat :=
  let c0_i32_2795 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2794 : BitVec 32 := 1#32
  let v2633 : BitVec 32 := Scalar.muli v5 c1_i32_2794
  let v2634 : BitVec 32 := Scalar.addi c0_i32_2795 v2633
  v2634.toNat
def k0_dev117 (d0 : Dev nD) : Nat :=
  let c0_i32_2851 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2850 : BitVec 32 := 1#32
  let v2686 : BitVec 32 := Scalar.muli v5 c1_i32_2850
  let v2687 : BitVec 32 := Scalar.addi c0_i32_2851 v2686
  v2687.toNat
def k0_dev118 (d0 : Dev nD) : Nat :=
  let c0_i32_2868 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2867 : BitVec 32 := 1#32
  let v2705 : BitVec 32 := Scalar.muli v7 c1_i32_2867
  let v2706 : BitVec 32 := Scalar.addi c0_i32_2868 v2705
  v2706.toNat
def k0_dev119 (d0 : Dev nD) : Nat :=
  let c0_i32_2877 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2876 : BitVec 32 := 1#32
  let v2709 : BitVec 32 := Scalar.muli v7 c1_i32_2876
  let v2710 : BitVec 32 := Scalar.addi c0_i32_2877 v2709
  v2710.toNat
def k0_dev120 (d0 : Dev nD) : Nat :=
  let c0_i32_2887 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2886 : BitVec 32 := 1#32
  let v2719 : BitVec 32 := Scalar.muli v5 c1_i32_2886
  let v2720 : BitVec 32 := Scalar.addi c0_i32_2887 v2719
  v2720.toNat
def k0_dev121 (d0 : Dev nD) : Nat :=
  let c0_i32_2943 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2942 : BitVec 32 := 1#32
  let v2772 : BitVec 32 := Scalar.muli v5 c1_i32_2942
  let v2773 : BitVec 32 := Scalar.addi c0_i32_2943 v2772
  v2773.toNat
def k0_dev122 (d0 : Dev nD) : Nat :=
  let c0_i32_2960 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2959 : BitVec 32 := 1#32
  let v2791 : BitVec 32 := Scalar.muli v7 c1_i32_2959
  let v2792 : BitVec 32 := Scalar.addi c0_i32_2960 v2791
  v2792.toNat
def k0_dev123 (d0 : Dev nD) : Nat :=
  let c0_i32_2969 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2968 : BitVec 32 := 1#32
  let v2795 : BitVec 32 := Scalar.muli v7 c1_i32_2968
  let v2796 : BitVec 32 := Scalar.addi c0_i32_2969 v2795
  v2796.toNat
def k0_dev124 (d0 : Dev nD) : Nat :=
  let c0_i32_2979 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2978 : BitVec 32 := 1#32
  let v2805 : BitVec 32 := Scalar.muli v5 c1_i32_2978
  let v2806 : BitVec 32 := Scalar.addi c0_i32_2979 v2805
  v2806.toNat
def k0_dev125 (d0 : Dev nD) : Nat :=
  let c0_i32_3039 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_3038 : BitVec 32 := 1#32
  let v2867 : BitVec 32 := Scalar.muli v5 c1_i32_3038
  let v2868 : BitVec 32 := Scalar.addi c0_i32_3039 v2867
  v2868.toNat
def k0_dev126 (d0 : Dev nD) : Nat :=
  let c0_i32_3060 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3059 : BitVec 32 := 1#32
  let v2895 : BitVec 32 := Scalar.muli v7 c1_i32_3059
  let v2896 : BitVec 32 := Scalar.addi c0_i32_3060 v2895
  v2896.toNat
def k0_dev127 (d0 : Dev nD) : Nat :=
  let c0_i32_3069 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3068 : BitVec 32 := 1#32
  let v2899 : BitVec 32 := Scalar.muli v7 c1_i32_3068
  let v2900 : BitVec 32 := Scalar.addi c0_i32_3069 v2899
  v2900.toNat
def k0_dev128 (d0 : Dev nD) : Nat :=
  let c0_i32_3079 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_3078 : BitVec 32 := 1#32
  let v2909 : BitVec 32 := Scalar.muli v5 c1_i32_3078
  let v2910 : BitVec 32 := Scalar.addi c0_i32_3079 v2909
  v2910.toNat
def k0_dev129 (d0 : Dev nD) : Nat :=
  let c0_i32_3137 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_3136 : BitVec 32 := 1#32
  let v2966 : BitVec 32 := Scalar.muli v5 c1_i32_3136
  let v2967 : BitVec 32 := Scalar.addi c0_i32_3137 v2966
  v2967.toNat
def k0_dev130 (d0 : Dev nD) : Nat :=
  let c0_i32_3157 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3156 : BitVec 32 := 1#32
  let v2989 : BitVec 32 := Scalar.muli v7 c1_i32_3156
  let v2990 : BitVec 32 := Scalar.addi c0_i32_3157 v2989
  v2990.toNat
def k0_dev131 (d0 : Dev nD) : Nat :=
  let c0_i32_3166 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3165 : BitVec 32 := 1#32
  let v2993 : BitVec 32 := Scalar.muli v7 c1_i32_3165
  let v2994 : BitVec 32 := Scalar.addi c0_i32_3166 v2993
  v2994.toNat
def k0_dev132 (d0 : Dev nD) : Nat :=
  let c0_i32_3176 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_3175 : BitVec 32 := 1#32
  let v3003 : BitVec 32 := Scalar.muli v5 c1_i32_3175
  let v3004 : BitVec 32 := Scalar.addi c0_i32_3176 v3003
  v3004.toNat
def k0_dev133 (d0 : Dev nD) : Nat :=
  let c0_i32_3234 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_3233 : BitVec 32 := 1#32
  let v3060 : BitVec 32 := Scalar.muli v5 c1_i32_3233
  let v3061 : BitVec 32 := Scalar.addi c0_i32_3234 v3060
  v3061.toNat
def k0_dev134 (d0 : Dev nD) : Nat :=
  let c0_i32_3253 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3252 : BitVec 32 := 1#32
  let v3083 : BitVec 32 := Scalar.muli v7 c1_i32_3252
  let v3084 : BitVec 32 := Scalar.addi c0_i32_3253 v3083
  v3084.toNat
def k0_dev135 (d0 : Dev nD) : Nat :=
  let c0_i32_3262 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3261 : BitVec 32 := 1#32
  let v3087 : BitVec 32 := Scalar.muli v7 c1_i32_3261
  let v3088 : BitVec 32 := Scalar.addi c0_i32_3262 v3087
  v3088.toNat
def k0_dev136 (d0 : Dev nD) : Nat :=
  let c0_i32_3272 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_3271 : BitVec 32 := 1#32
  let v3097 : BitVec 32 := Scalar.muli v5 c1_i32_3271
  let v3098 : BitVec 32 := Scalar.addi c0_i32_3272 v3097
  v3098.toNat
def k0_dev137 (d0 : Dev nD) : Nat :=
  let c0_i32_3330 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_3329 : BitVec 32 := 1#32
  let v3154 : BitVec 32 := Scalar.muli v5 c1_i32_3329
  let v3155 : BitVec 32 := Scalar.addi c0_i32_3330 v3154
  v3155.toNat
def k0_dev138 (d0 : Dev nD) : Nat :=
  let c0_i32_3349 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3348 : BitVec 32 := 1#32
  let v3177 : BitVec 32 := Scalar.muli v7 c1_i32_3348
  let v3178 : BitVec 32 := Scalar.addi c0_i32_3349 v3177
  v3178.toNat
def k0_dev139 (d0 : Dev nD) : Nat :=
  let c0_i32_3358 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3357 : BitVec 32 := 1#32
  let v3181 : BitVec 32 := Scalar.muli v7 c1_i32_3357
  let v3182 : BitVec 32 := Scalar.addi c0_i32_3358 v3181
  v3182.toNat
def k0_dev140 (d0 : Dev nD) : Nat :=
  let c0_i32_3368 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_3367 : BitVec 32 := 1#32
  let v3191 : BitVec 32 := Scalar.muli v5 c1_i32_3367
  let v3192 : BitVec 32 := Scalar.addi c0_i32_3368 v3191
  v3192.toNat
def k0_dev141 (d0 : Dev nD) : Nat :=
  let c0_i32_3426 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_3425 : BitVec 32 := 1#32
  let v3248 : BitVec 32 := Scalar.muli v5 c1_i32_3425
  let v3249 : BitVec 32 := Scalar.addi c0_i32_3426 v3248
  v3249.toNat
def k0_dev142 (d0 : Dev nD) : Nat :=
  let c0_i32_3445 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3444 : BitVec 32 := 1#32
  let v3271 : BitVec 32 := Scalar.muli v7 c1_i32_3444
  let v3272 : BitVec 32 := Scalar.addi c0_i32_3445 v3271
  v3272.toNat
def k0_dev143 (d0 : Dev nD) : Nat :=
  let c0_i32_3454 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3453 : BitVec 32 := 1#32
  let v3275 : BitVec 32 := Scalar.muli v7 c1_i32_3453
  let v3276 : BitVec 32 := Scalar.addi c0_i32_3454 v3275
  v3276.toNat
def k0_dev144 (d0 : Dev nD) : Nat :=
  let c0_i32_3464 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_3463 : BitVec 32 := 1#32
  let v3285 : BitVec 32 := Scalar.muli v5 c1_i32_3463
  let v3286 : BitVec 32 := Scalar.addi c0_i32_3464 v3285
  v3286.toNat
def k0_dev145 (d0 : Dev nD) : Nat :=
  let c0_i32_3522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_3521 : BitVec 32 := 1#32
  let v3342 : BitVec 32 := Scalar.muli v5 c1_i32_3521
  let v3343 : BitVec 32 := Scalar.addi c0_i32_3522 v3342
  v3343.toNat
def k0_dev146 (d0 : Dev nD) : Nat :=
  let c0_i32_3541 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3540 : BitVec 32 := 1#32
  let v3365 : BitVec 32 := Scalar.muli v7 c1_i32_3540
  let v3366 : BitVec 32 := Scalar.addi c0_i32_3541 v3365
  v3366.toNat
def k0_dev147 (d0 : Dev nD) : Nat :=
  let c0_i32_3550 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3549 : BitVec 32 := 1#32
  let v3369 : BitVec 32 := Scalar.muli v7 c1_i32_3549
  let v3370 : BitVec 32 := Scalar.addi c0_i32_3550 v3369
  v3370.toNat
def k0_dev148 (d0 : Dev nD) : Nat :=
  let c0_i32_3560 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_3559 : BitVec 32 := 1#32
  let v3379 : BitVec 32 := Scalar.muli v5 c1_i32_3559
  let v3380 : BitVec 32 := Scalar.addi c0_i32_3560 v3379
  v3380.toNat
def k0_dev149 (d0 : Dev nD) : Nat :=
  let c0_i32_3618 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_3617 : BitVec 32 := 1#32
  let v3436 : BitVec 32 := Scalar.muli v5 c1_i32_3617
  let v3437 : BitVec 32 := Scalar.addi c0_i32_3618 v3436
  v3437.toNat
def k0_dev150 (d0 : Dev nD) : Nat :=
  let c0_i32_3637 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3636 : BitVec 32 := 1#32
  let v3459 : BitVec 32 := Scalar.muli v7 c1_i32_3636
  let v3460 : BitVec 32 := Scalar.addi c0_i32_3637 v3459
  v3460.toNat
def k0_dev151 (d0 : Dev nD) : Nat :=
  let c0_i32_3646 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3645 : BitVec 32 := 1#32
  let v3463 : BitVec 32 := Scalar.muli v7 c1_i32_3645
  let v3464 : BitVec 32 := Scalar.addi c0_i32_3646 v3463
  v3464.toNat
def k0_dev152 (d0 : Dev nD) : Nat :=
  let c0_i32_3656 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_3655 : BitVec 32 := 1#32
  let v3473 : BitVec 32 := Scalar.muli v5 c1_i32_3655
  let v3474 : BitVec 32 := Scalar.addi c0_i32_3656 v3473
  v3474.toNat
def k0_dev153 (d0 : Dev nD) : Nat :=
  let c0_i32_3714 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_3713 : BitVec 32 := 1#32
  let v3530 : BitVec 32 := Scalar.muli v5 c1_i32_3713
  let v3531 : BitVec 32 := Scalar.addi c0_i32_3714 v3530
  v3531.toNat
def k0_dev154 (d0 : Dev nD) : Nat :=
  let c0_i32_3733 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3732 : BitVec 32 := 1#32
  let v3553 : BitVec 32 := Scalar.muli v7 c1_i32_3732
  let v3554 : BitVec 32 := Scalar.addi c0_i32_3733 v3553
  v3554.toNat
def k0_dev155 (d0 : Dev nD) : Nat :=
  let c0_i32_3742 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3741 : BitVec 32 := 1#32
  let v3557 : BitVec 32 := Scalar.muli v7 c1_i32_3741
  let v3558 : BitVec 32 := Scalar.addi c0_i32_3742 v3557
  v3558.toNat
def k0_dev156 (d0 : Dev nD) : Nat :=
  let c0_i32_3752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_3751 : BitVec 32 := 1#32
  let v3567 : BitVec 32 := Scalar.muli v5 c1_i32_3751
  let v3568 : BitVec 32 := Scalar.addi c0_i32_3752 v3567
  v3568.toNat
def k0_dev157 (d0 : Dev nD) : Nat :=
  let c0_i32_3810 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_3809 : BitVec 32 := 1#32
  let v3624 : BitVec 32 := Scalar.muli v5 c1_i32_3809
  let v3625 : BitVec 32 := Scalar.addi c0_i32_3810 v3624
  v3625.toNat
def k0_dev158 (d0 : Dev nD) : Nat :=
  let c0_i32_3829 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3828 : BitVec 32 := 1#32
  let v3647 : BitVec 32 := Scalar.muli v7 c1_i32_3828
  let v3648 : BitVec 32 := Scalar.addi c0_i32_3829 v3647
  v3648.toNat
def k0_dev159 (d0 : Dev nD) : Nat :=
  let c0_i32_3838 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3837 : BitVec 32 := 1#32
  let v3651 : BitVec 32 := Scalar.muli v7 c1_i32_3837
  let v3652 : BitVec 32 := Scalar.addi c0_i32_3838 v3651
  v3652.toNat
def k0_dev160 (d0 : Dev nD) : Nat :=
  let c0_i32_3848 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_3847 : BitVec 32 := 1#32
  let v3661 : BitVec 32 := Scalar.muli v5 c1_i32_3847
  let v3662 : BitVec 32 := Scalar.addi c0_i32_3848 v3661
  v3662.toNat
def k0_dev161 (d0 : Dev nD) : Nat :=
  let c0_i32_3906 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_3905 : BitVec 32 := 1#32
  let v3718 : BitVec 32 := Scalar.muli v5 c1_i32_3905
  let v3719 : BitVec 32 := Scalar.addi c0_i32_3906 v3718
  v3719.toNat
def k0_dev162 (d0 : Dev nD) : Nat :=
  let c0_i32_3925 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3924 : BitVec 32 := 1#32
  let v3741 : BitVec 32 := Scalar.muli v7 c1_i32_3924
  let v3742 : BitVec 32 := Scalar.addi c0_i32_3925 v3741
  v3742.toNat
def k0_dev163 (d0 : Dev nD) : Nat :=
  let c0_i32_3934 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3933 : BitVec 32 := 1#32
  let v3745 : BitVec 32 := Scalar.muli v7 c1_i32_3933
  let v3746 : BitVec 32 := Scalar.addi c0_i32_3934 v3745
  v3746.toNat
def k0_dev164 (d0 : Dev nD) : Nat :=
  let c0_i32_3944 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_3943 : BitVec 32 := 1#32
  let v3755 : BitVec 32 := Scalar.muli v5 c1_i32_3943
  let v3756 : BitVec 32 := Scalar.addi c0_i32_3944 v3755
  v3756.toNat
def k0_dev165 (d0 : Dev nD) : Nat :=
  let c0_i32_4002 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_4001 : BitVec 32 := 1#32
  let v3812 : BitVec 32 := Scalar.muli v5 c1_i32_4001
  let v3813 : BitVec 32 := Scalar.addi c0_i32_4002 v3812
  v3813.toNat
def k0_dev166 (d0 : Dev nD) : Nat :=
  let c0_i32_4021 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4020 : BitVec 32 := 1#32
  let v3835 : BitVec 32 := Scalar.muli v7 c1_i32_4020
  let v3836 : BitVec 32 := Scalar.addi c0_i32_4021 v3835
  v3836.toNat
def k0_dev167 (d0 : Dev nD) : Nat :=
  let c0_i32_4030 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4029 : BitVec 32 := 1#32
  let v3839 : BitVec 32 := Scalar.muli v7 c1_i32_4029
  let v3840 : BitVec 32 := Scalar.addi c0_i32_4030 v3839
  v3840.toNat
def k0_dev168 (d0 : Dev nD) : Nat :=
  let c0_i32_4040 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_4039 : BitVec 32 := 1#32
  let v3849 : BitVec 32 := Scalar.muli v5 c1_i32_4039
  let v3850 : BitVec 32 := Scalar.addi c0_i32_4040 v3849
  v3850.toNat
def k0_dev169 (d0 : Dev nD) : Nat :=
  let c0_i32_4098 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_4097 : BitVec 32 := 1#32
  let v3906 : BitVec 32 := Scalar.muli v5 c1_i32_4097
  let v3907 : BitVec 32 := Scalar.addi c0_i32_4098 v3906
  v3907.toNat
def k0_dev170 (d0 : Dev nD) : Nat :=
  let c0_i32_4117 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4116 : BitVec 32 := 1#32
  let v3929 : BitVec 32 := Scalar.muli v7 c1_i32_4116
  let v3930 : BitVec 32 := Scalar.addi c0_i32_4117 v3929
  v3930.toNat
def k0_dev171 (d0 : Dev nD) : Nat :=
  let c0_i32_4126 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4125 : BitVec 32 := 1#32
  let v3933 : BitVec 32 := Scalar.muli v7 c1_i32_4125
  let v3934 : BitVec 32 := Scalar.addi c0_i32_4126 v3933
  v3934.toNat
def k0_dev172 (d0 : Dev nD) : Nat :=
  let c0_i32_4136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_4135 : BitVec 32 := 1#32
  let v3943 : BitVec 32 := Scalar.muli v5 c1_i32_4135
  let v3944 : BitVec 32 := Scalar.addi c0_i32_4136 v3943
  v3944.toNat
def k0_dev173 (d0 : Dev nD) : Nat :=
  let c0_i32_4194 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_4193 : BitVec 32 := 1#32
  let v4000 : BitVec 32 := Scalar.muli v5 c1_i32_4193
  let v4001 : BitVec 32 := Scalar.addi c0_i32_4194 v4000
  v4001.toNat
def k0_dev174 (d0 : Dev nD) : Nat :=
  let c0_i32_4213 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4212 : BitVec 32 := 1#32
  let v4023 : BitVec 32 := Scalar.muli v7 c1_i32_4212
  let v4024 : BitVec 32 := Scalar.addi c0_i32_4213 v4023
  v4024.toNat
def k0_dev175 (d0 : Dev nD) : Nat :=
  let c0_i32_4222 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4221 : BitVec 32 := 1#32
  let v4027 : BitVec 32 := Scalar.muli v7 c1_i32_4221
  let v4028 : BitVec 32 := Scalar.addi c0_i32_4222 v4027
  v4028.toNat
def k0_dev176 (d0 : Dev nD) : Nat :=
  let c0_i32_4232 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_4231 : BitVec 32 := 1#32
  let v4037 : BitVec 32 := Scalar.muli v5 c1_i32_4231
  let v4038 : BitVec 32 := Scalar.addi c0_i32_4232 v4037
  v4038.toNat
def k0_dev177 (d0 : Dev nD) : Nat :=
  let c0_i32_4290 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_4289 : BitVec 32 := 1#32
  let v4094 : BitVec 32 := Scalar.muli v5 c1_i32_4289
  let v4095 : BitVec 32 := Scalar.addi c0_i32_4290 v4094
  v4095.toNat
def k0_dev178 (d0 : Dev nD) : Nat :=
  let c0_i32_4309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4308 : BitVec 32 := 1#32
  let v4117 : BitVec 32 := Scalar.muli v7 c1_i32_4308
  let v4118 : BitVec 32 := Scalar.addi c0_i32_4309 v4117
  v4118.toNat
def k0_dev179 (d0 : Dev nD) : Nat :=
  let c0_i32_4318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4317 : BitVec 32 := 1#32
  let v4121 : BitVec 32 := Scalar.muli v7 c1_i32_4317
  let v4122 : BitVec 32 := Scalar.addi c0_i32_4318 v4121
  v4122.toNat
def k0_dev180 (d0 : Dev nD) : Nat :=
  let c0_i32_4328 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_4327 : BitVec 32 := 1#32
  let v4131 : BitVec 32 := Scalar.muli v5 c1_i32_4327
  let v4132 : BitVec 32 := Scalar.addi c0_i32_4328 v4131
  v4132.toNat
def k0_dev181 (d0 : Dev nD) : Nat :=
  let c0_i32_4386 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_4385 : BitVec 32 := 1#32
  let v4188 : BitVec 32 := Scalar.muli v5 c1_i32_4385
  let v4189 : BitVec 32 := Scalar.addi c0_i32_4386 v4188
  v4189.toNat
def k0_dev182 (d0 : Dev nD) : Nat :=
  let c0_i32_4405 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4404 : BitVec 32 := 1#32
  let v4211 : BitVec 32 := Scalar.muli v7 c1_i32_4404
  let v4212 : BitVec 32 := Scalar.addi c0_i32_4405 v4211
  v4212.toNat
def k0_dev183 (d0 : Dev nD) : Nat :=
  let c0_i32_4414 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4413 : BitVec 32 := 1#32
  let v4215 : BitVec 32 := Scalar.muli v7 c1_i32_4413
  let v4216 : BitVec 32 := Scalar.addi c0_i32_4414 v4215
  v4216.toNat
def k0_dev184 (d0 : Dev nD) : Nat :=
  let c0_i32_4424 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_4423 : BitVec 32 := 1#32
  let v4225 : BitVec 32 := Scalar.muli v5 c1_i32_4423
  let v4226 : BitVec 32 := Scalar.addi c0_i32_4424 v4225
  v4226.toNat
def k0_dev185 (d0 : Dev nD) : Nat :=
  let c0_i32_4482 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_4481 : BitVec 32 := 1#32
  let v4282 : BitVec 32 := Scalar.muli v5 c1_i32_4481
  let v4283 : BitVec 32 := Scalar.addi c0_i32_4482 v4282
  v4283.toNat
def k0_dev186 (d0 : Dev nD) : Nat :=
  let c0_i32_4501 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4500 : BitVec 32 := 1#32
  let v4305 : BitVec 32 := Scalar.muli v7 c1_i32_4500
  let v4306 : BitVec 32 := Scalar.addi c0_i32_4501 v4305
  v4306.toNat
def k0_dev187 (d0 : Dev nD) : Nat :=
  let c0_i32_4510 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4509 : BitVec 32 := 1#32
  let v4309 : BitVec 32 := Scalar.muli v7 c1_i32_4509
  let v4310 : BitVec 32 := Scalar.addi c0_i32_4510 v4309
  v4310.toNat
def k0_dev188 (d0 : Dev nD) : Nat :=
  let c0_i32_4520 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_4519 : BitVec 32 := 1#32
  let v4319 : BitVec 32 := Scalar.muli v5 c1_i32_4519
  let v4320 : BitVec 32 := Scalar.addi c0_i32_4520 v4319
  v4320.toNat
def k0_dev189 (d0 : Dev nD) : Nat :=
  let c0_i32_4578 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_4577 : BitVec 32 := 1#32
  let v4376 : BitVec 32 := Scalar.muli v5 c1_i32_4577
  let v4377 : BitVec 32 := Scalar.addi c0_i32_4578 v4376
  v4377.toNat
def k0_dev190 (d0 : Dev nD) : Nat :=
  let c0_i32_4597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4596 : BitVec 32 := 1#32
  let v4399 : BitVec 32 := Scalar.muli v7 c1_i32_4596
  let v4400 : BitVec 32 := Scalar.addi c0_i32_4597 v4399
  v4400.toNat
def k0_dev191 (d0 : Dev nD) : Nat :=
  let c0_i32_4606 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4605 : BitVec 32 := 1#32
  let v4403 : BitVec 32 := Scalar.muli v7 c1_i32_4605
  let v4404 : BitVec 32 := Scalar.addi c0_i32_4606 v4403
  v4404.toNat
def k0_dev192 (d0 : Dev nD) : Nat :=
  let c0_i32_4616 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_4615 : BitVec 32 := 1#32
  let v4413 : BitVec 32 := Scalar.muli v5 c1_i32_4615
  let v4414 : BitVec 32 := Scalar.addi c0_i32_4616 v4413
  v4414.toNat
def k0_dev193 (d0 : Dev nD) : Nat :=
  let c0_i32_4674 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_4673 : BitVec 32 := 1#32
  let v4470 : BitVec 32 := Scalar.muli v5 c1_i32_4673
  let v4471 : BitVec 32 := Scalar.addi c0_i32_4674 v4470
  v4471.toNat
def k0_dev194 (d0 : Dev nD) : Nat :=
  let c0_i32_4693 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4692 : BitVec 32 := 1#32
  let v4493 : BitVec 32 := Scalar.muli v7 c1_i32_4692
  let v4494 : BitVec 32 := Scalar.addi c0_i32_4693 v4493
  v4494.toNat
def k0_dev195 (d0 : Dev nD) : Nat :=
  let c0_i32_4702 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4701 : BitVec 32 := 1#32
  let v4497 : BitVec 32 := Scalar.muli v7 c1_i32_4701
  let v4498 : BitVec 32 := Scalar.addi c0_i32_4702 v4497
  v4498.toNat
def k0_dev196 (d0 : Dev nD) : Nat :=
  let c0_i32_4712 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_4711 : BitVec 32 := 1#32
  let v4507 : BitVec 32 := Scalar.muli v5 c1_i32_4711
  let v4508 : BitVec 32 := Scalar.addi c0_i32_4712 v4507
  v4508.toNat
def k0_dev197 (d0 : Dev nD) : Nat :=
  let c0_i32_4770 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_4769 : BitVec 32 := 1#32
  let v4564 : BitVec 32 := Scalar.muli v5 c1_i32_4769
  let v4565 : BitVec 32 := Scalar.addi c0_i32_4770 v4564
  v4565.toNat
def k0_dev198 (d0 : Dev nD) : Nat :=
  let c0_i32_4789 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4788 : BitVec 32 := 1#32
  let v4587 : BitVec 32 := Scalar.muli v7 c1_i32_4788
  let v4588 : BitVec 32 := Scalar.addi c0_i32_4789 v4587
  v4588.toNat
def k0_dev199 (d0 : Dev nD) : Nat :=
  let c0_i32_4798 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4797 : BitVec 32 := 1#32
  let v4591 : BitVec 32 := Scalar.muli v7 c1_i32_4797
  let v4592 : BitVec 32 := Scalar.addi c0_i32_4798 v4591
  v4592.toNat
def k0_dev200 (d0 : Dev nD) : Nat :=
  let c0_i32_4808 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_4807 : BitVec 32 := 1#32
  let v4601 : BitVec 32 := Scalar.muli v5 c1_i32_4807
  let v4602 : BitVec 32 := Scalar.addi c0_i32_4808 v4601
  v4602.toNat
def k0_dev201 (d0 : Dev nD) : Nat :=
  let c0_i32_4866 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_4865 : BitVec 32 := 1#32
  let v4658 : BitVec 32 := Scalar.muli v5 c1_i32_4865
  let v4659 : BitVec 32 := Scalar.addi c0_i32_4866 v4658
  v4659.toNat
def k0_dev202 (d0 : Dev nD) : Nat :=
  let c0_i32_4885 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4884 : BitVec 32 := 1#32
  let v4681 : BitVec 32 := Scalar.muli v7 c1_i32_4884
  let v4682 : BitVec 32 := Scalar.addi c0_i32_4885 v4681
  v4682.toNat
def k0_dev203 (d0 : Dev nD) : Nat :=
  let c0_i32_4894 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4893 : BitVec 32 := 1#32
  let v4685 : BitVec 32 := Scalar.muli v7 c1_i32_4893
  let v4686 : BitVec 32 := Scalar.addi c0_i32_4894 v4685
  v4686.toNat
def k0_dev204 (d0 : Dev nD) : Nat :=
  let c0_i32_4904 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_4903 : BitVec 32 := 1#32
  let v4695 : BitVec 32 := Scalar.muli v5 c1_i32_4903
  let v4696 : BitVec 32 := Scalar.addi c0_i32_4904 v4695
  v4696.toNat
def k0_dev205 (d0 : Dev nD) : Nat :=
  let c0_i32_4962 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_4961 : BitVec 32 := 1#32
  let v4752 : BitVec 32 := Scalar.muli v5 c1_i32_4961
  let v4753 : BitVec 32 := Scalar.addi c0_i32_4962 v4752
  v4753.toNat
def k0_dev206 (d0 : Dev nD) : Nat :=
  let c0_i32_4981 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4980 : BitVec 32 := 1#32
  let v4775 : BitVec 32 := Scalar.muli v7 c1_i32_4980
  let v4776 : BitVec 32 := Scalar.addi c0_i32_4981 v4775
  v4776.toNat
def k0_dev207 (d0 : Dev nD) : Nat :=
  let c0_i32_4990 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4989 : BitVec 32 := 1#32
  let v4779 : BitVec 32 := Scalar.muli v7 c1_i32_4989
  let v4780 : BitVec 32 := Scalar.addi c0_i32_4990 v4779
  v4780.toNat
def k0_dev208 (d0 : Dev nD) : Nat :=
  let c0_i32_5000 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_4999 : BitVec 32 := 1#32
  let v4789 : BitVec 32 := Scalar.muli v5 c1_i32_4999
  let v4790 : BitVec 32 := Scalar.addi c0_i32_5000 v4789
  v4790.toNat
def k0_dev209 (d0 : Dev nD) : Nat :=
  let c0_i32_5058 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_5057 : BitVec 32 := 1#32
  let v4846 : BitVec 32 := Scalar.muli v5 c1_i32_5057
  let v4847 : BitVec 32 := Scalar.addi c0_i32_5058 v4846
  v4847.toNat
def k0_dev210 (d0 : Dev nD) : Nat :=
  let c0_i32_5077 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5076 : BitVec 32 := 1#32
  let v4869 : BitVec 32 := Scalar.muli v7 c1_i32_5076
  let v4870 : BitVec 32 := Scalar.addi c0_i32_5077 v4869
  v4870.toNat
def k0_dev211 (d0 : Dev nD) : Nat :=
  let c0_i32_5086 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5085 : BitVec 32 := 1#32
  let v4873 : BitVec 32 := Scalar.muli v7 c1_i32_5085
  let v4874 : BitVec 32 := Scalar.addi c0_i32_5086 v4873
  v4874.toNat
def k0_dev212 (d0 : Dev nD) : Nat :=
  let c0_i32_5096 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_5095 : BitVec 32 := 1#32
  let v4883 : BitVec 32 := Scalar.muli v5 c1_i32_5095
  let v4884 : BitVec 32 := Scalar.addi c0_i32_5096 v4883
  v4884.toNat
def k0_dev213 (d0 : Dev nD) : Nat :=
  let c0_i32_5154 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_5153 : BitVec 32 := 1#32
  let v4940 : BitVec 32 := Scalar.muli v5 c1_i32_5153
  let v4941 : BitVec 32 := Scalar.addi c0_i32_5154 v4940
  v4941.toNat
def k0_dev214 (d0 : Dev nD) : Nat :=
  let c0_i32_5173 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5172 : BitVec 32 := 1#32
  let v4963 : BitVec 32 := Scalar.muli v7 c1_i32_5172
  let v4964 : BitVec 32 := Scalar.addi c0_i32_5173 v4963
  v4964.toNat
def k0_dev215 (d0 : Dev nD) : Nat :=
  let c0_i32_5182 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5181 : BitVec 32 := 1#32
  let v4967 : BitVec 32 := Scalar.muli v7 c1_i32_5181
  let v4968 : BitVec 32 := Scalar.addi c0_i32_5182 v4967
  v4968.toNat
def k0_dev216 (d0 : Dev nD) : Nat :=
  let c0_i32_5192 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_5191 : BitVec 32 := 1#32
  let v4977 : BitVec 32 := Scalar.muli v5 c1_i32_5191
  let v4978 : BitVec 32 := Scalar.addi c0_i32_5192 v4977
  v4978.toNat
def k0_dev217 (d0 : Dev nD) : Nat :=
  let c0_i32_5250 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_5249 : BitVec 32 := 1#32
  let v5034 : BitVec 32 := Scalar.muli v5 c1_i32_5249
  let v5035 : BitVec 32 := Scalar.addi c0_i32_5250 v5034
  v5035.toNat
def k0_dev218 (d0 : Dev nD) : Nat :=
  let c0_i32_5269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5268 : BitVec 32 := 1#32
  let v5057 : BitVec 32 := Scalar.muli v7 c1_i32_5268
  let v5058 : BitVec 32 := Scalar.addi c0_i32_5269 v5057
  v5058.toNat
def k0_dev219 (d0 : Dev nD) : Nat :=
  let c0_i32_5278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5277 : BitVec 32 := 1#32
  let v5061 : BitVec 32 := Scalar.muli v7 c1_i32_5277
  let v5062 : BitVec 32 := Scalar.addi c0_i32_5278 v5061
  v5062.toNat
def k0_dev220 (d0 : Dev nD) : Nat :=
  let c0_i32_5288 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_5287 : BitVec 32 := 1#32
  let v5071 : BitVec 32 := Scalar.muli v5 c1_i32_5287
  let v5072 : BitVec 32 := Scalar.addi c0_i32_5288 v5071
  v5072.toNat
def k0_dev221 (d0 : Dev nD) : Nat :=
  let c0_i32_5346 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_5345 : BitVec 32 := 1#32
  let v5128 : BitVec 32 := Scalar.muli v5 c1_i32_5345
  let v5129 : BitVec 32 := Scalar.addi c0_i32_5346 v5128
  v5129.toNat
def k0_dev222 (d0 : Dev nD) : Nat :=
  let c0_i32_5365 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5364 : BitVec 32 := 1#32
  let v5151 : BitVec 32 := Scalar.muli v7 c1_i32_5364
  let v5152 : BitVec 32 := Scalar.addi c0_i32_5365 v5151
  v5152.toNat
def k0_dev223 (d0 : Dev nD) : Nat :=
  let c0_i32_5374 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5373 : BitVec 32 := 1#32
  let v5155 : BitVec 32 := Scalar.muli v7 c1_i32_5373
  let v5156 : BitVec 32 := Scalar.addi c0_i32_5374 v5155
  v5156.toNat
def k0_dev224 (d0 : Dev nD) : Nat :=
  let c0_i32_5384 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_5383 : BitVec 32 := 1#32
  let v5165 : BitVec 32 := Scalar.muli v5 c1_i32_5383
  let v5166 : BitVec 32 := Scalar.addi c0_i32_5384 v5165
  v5166.toNat
def k0_dev225 (d0 : Dev nD) : Nat :=
  let c0_i32_5442 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_5441 : BitVec 32 := 1#32
  let v5222 : BitVec 32 := Scalar.muli v5 c1_i32_5441
  let v5223 : BitVec 32 := Scalar.addi c0_i32_5442 v5222
  v5223.toNat
def k0_dev226 (d0 : Dev nD) : Nat :=
  let c0_i32_5461 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5460 : BitVec 32 := 1#32
  let v5245 : BitVec 32 := Scalar.muli v7 c1_i32_5460
  let v5246 : BitVec 32 := Scalar.addi c0_i32_5461 v5245
  v5246.toNat
def k0_dev227 (d0 : Dev nD) : Nat :=
  let c0_i32_5470 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5469 : BitVec 32 := 1#32
  let v5249 : BitVec 32 := Scalar.muli v7 c1_i32_5469
  let v5250 : BitVec 32 := Scalar.addi c0_i32_5470 v5249
  v5250.toNat
def k0_dev228 (d0 : Dev nD) : Nat :=
  let c0_i32_5480 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_5479 : BitVec 32 := 1#32
  let v5259 : BitVec 32 := Scalar.muli v5 c1_i32_5479
  let v5260 : BitVec 32 := Scalar.addi c0_i32_5480 v5259
  v5260.toNat
def k0_dev229 (d0 : Dev nD) : Nat :=
  let c0_i32_5538 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_5537 : BitVec 32 := 1#32
  let v5316 : BitVec 32 := Scalar.muli v5 c1_i32_5537
  let v5317 : BitVec 32 := Scalar.addi c0_i32_5538 v5316
  v5317.toNat
def k0_dev230 (d0 : Dev nD) : Nat :=
  let c0_i32_5557 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5556 : BitVec 32 := 1#32
  let v5339 : BitVec 32 := Scalar.muli v7 c1_i32_5556
  let v5340 : BitVec 32 := Scalar.addi c0_i32_5557 v5339
  v5340.toNat
def k0_dev231 (d0 : Dev nD) : Nat :=
  let c0_i32_5566 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5565 : BitVec 32 := 1#32
  let v5343 : BitVec 32 := Scalar.muli v7 c1_i32_5565
  let v5344 : BitVec 32 := Scalar.addi c0_i32_5566 v5343
  v5344.toNat
def k0_dev232 (d0 : Dev nD) : Nat :=
  let c0_i32_5576 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_5575 : BitVec 32 := 1#32
  let v5353 : BitVec 32 := Scalar.muli v5 c1_i32_5575
  let v5354 : BitVec 32 := Scalar.addi c0_i32_5576 v5353
  v5354.toNat
def k0_dev233 (d0 : Dev nD) : Nat :=
  let c0_i32_5634 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_5633 : BitVec 32 := 1#32
  let v5410 : BitVec 32 := Scalar.muli v5 c1_i32_5633
  let v5411 : BitVec 32 := Scalar.addi c0_i32_5634 v5410
  v5411.toNat
def k0_dev234 (d0 : Dev nD) : Nat :=
  let c0_i32_5653 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5652 : BitVec 32 := 1#32
  let v5433 : BitVec 32 := Scalar.muli v7 c1_i32_5652
  let v5434 : BitVec 32 := Scalar.addi c0_i32_5653 v5433
  v5434.toNat
def k0_dev235 (d0 : Dev nD) : Nat :=
  let c0_i32_5662 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5661 : BitVec 32 := 1#32
  let v5437 : BitVec 32 := Scalar.muli v7 c1_i32_5661
  let v5438 : BitVec 32 := Scalar.addi c0_i32_5662 v5437
  v5438.toNat
def k0_dev236 (d0 : Dev nD) : Nat :=
  let c0_i32_5672 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_5671 : BitVec 32 := 1#32
  let v5447 : BitVec 32 := Scalar.muli v5 c1_i32_5671
  let v5448 : BitVec 32 := Scalar.addi c0_i32_5672 v5447
  v5448.toNat
def k0_dev237 (d0 : Dev nD) : Nat :=
  let c0_i32_5730 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_5729 : BitVec 32 := 1#32
  let v5504 : BitVec 32 := Scalar.muli v5 c1_i32_5729
  let v5505 : BitVec 32 := Scalar.addi c0_i32_5730 v5504
  v5505.toNat
def k0_dev238 (d0 : Dev nD) : Nat :=
  let c0_i32_5749 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5748 : BitVec 32 := 1#32
  let v5527 : BitVec 32 := Scalar.muli v7 c1_i32_5748
  let v5528 : BitVec 32 := Scalar.addi c0_i32_5749 v5527
  v5528.toNat
def k0_dev239 (d0 : Dev nD) : Nat :=
  let c0_i32_5758 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5757 : BitVec 32 := 1#32
  let v5531 : BitVec 32 := Scalar.muli v7 c1_i32_5757
  let v5532 : BitVec 32 := Scalar.addi c0_i32_5758 v5531
  v5532.toNat
def k0_dev240 (d0 : Dev nD) : Nat :=
  let c0_i32_5768 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_5767 : BitVec 32 := 1#32
  let v5541 : BitVec 32 := Scalar.muli v5 c1_i32_5767
  let v5542 : BitVec 32 := Scalar.addi c0_i32_5768 v5541
  v5542.toNat
def k0_dev241 (d0 : Dev nD) : Nat :=
  let c0_i32_5826 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_5825 : BitVec 32 := 1#32
  let v5598 : BitVec 32 := Scalar.muli v5 c1_i32_5825
  let v5599 : BitVec 32 := Scalar.addi c0_i32_5826 v5598
  v5599.toNat
def k0_dev242 (d0 : Dev nD) : Nat :=
  let c0_i32_5845 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5844 : BitVec 32 := 1#32
  let v5621 : BitVec 32 := Scalar.muli v7 c1_i32_5844
  let v5622 : BitVec 32 := Scalar.addi c0_i32_5845 v5621
  v5622.toNat
def k0_dev243 (d0 : Dev nD) : Nat :=
  let c0_i32_5854 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5853 : BitVec 32 := 1#32
  let v5625 : BitVec 32 := Scalar.muli v7 c1_i32_5853
  let v5626 : BitVec 32 := Scalar.addi c0_i32_5854 v5625
  v5626.toNat
def k0_dev244 (d0 : Dev nD) : Nat :=
  let c0_i32_5864 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_5863 : BitVec 32 := 1#32
  let v5635 : BitVec 32 := Scalar.muli v5 c1_i32_5863
  let v5636 : BitVec 32 := Scalar.addi c0_i32_5864 v5635
  v5636.toNat
def k0_dev245 (d0 : Dev nD) : Nat :=
  let c0_i32_5942 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5941 : BitVec 32 := 1#32
  let v5711 : BitVec 32 := Scalar.muli v7 c1_i32_5941
  let v5712 : BitVec 32 := Scalar.addi c0_i32_5942 v5711
  v5712.toNat
def k0_dev246 (d0 : Dev nD) : Nat :=
  let c0_i32_5952 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_5951 : BitVec 32 := 1#32
  let v5721 : BitVec 32 := Scalar.muli v5 c1_i32_5951
  let v5722 : BitVec 32 := Scalar.addi c0_i32_5952 v5721
  v5722.toNat
def k0_dev247 (d0 : Dev nD) : Nat :=
  let c0_i32_6015 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_6014 : BitVec 32 := 1#32
  let v5787 : BitVec 32 := Scalar.muli v5 c1_i32_6014
  let v5788 : BitVec 32 := Scalar.addi c0_i32_6015 v5787
  v5788.toNat
def k0_dev248 (d0 : Dev nD) : Nat :=
  let c0_i32_6018 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_6017 : BitVec 32 := 1#32
  let v5789 : BitVec 32 := Scalar.muli v7 c1_i32_6017
  let v5790 : BitVec 32 := Scalar.addi c0_i32_6018 v5789
  v5790.toNat
abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 22
  | .vmem => 2
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .local _ .vmem, ⟨0, _⟩ => ⟨S4096x2048, .f32⟩
  | .local _ .vmem, ⟨1, _⟩ => ⟨S4096x2048, .f32⟩
  | _, _ => ⟨S4096x4096, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4096x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Body.lean ====
module

public import proofs.«01_k».proof.Proof.Gen.Kernel.Frame
public import proofs.«01_k».proof.Proof.Gen.Kernel.Skeleton

@[expose] public section

/-!
# The body of the kernel, as a loop

The printed body is one straight line: 32 products, 62 ring steps in two directions, 32 roundings. Here it is written
once per step, at a symbolic step, slot and direction, and `body_eq` says the printed line is that loop run out.
-/

noncomputable section

namespace RingQ

open Idealize.ShloMosaic Idealize.SL.Sem
open Cert.Kernel Cert.Kernel.Gen

variable {F : FTy → Type} [FloatOps F]

/-- Programs of one core. -/
abbrev Act (F : FTy → Type) [FloatOps F] (α : Type) := Prog (TpuEff nD τ sig (Elt F) Λ₀ .tc) α

/-- The two-slot buffers' slot used at step `s`. -/
def par (s : ℕ) : Fin 2 := ⟨s % 2, Nat.mod_lt _ (by decide)⟩

theorem inbSlot (p : Fin 2) : ∀ a, (![p.val, 0, 0] : Fin 3 → Nat) a + S1x128x1024.size a ≤ S2x128x1024.size a := by
  revert p; decide

theorem inbSem (p : Fin 2) : ∀ a, (![p.val] : Fin 1 → Nat) a + S1.size a ≤ S2.size a := by
  revert p; decide

theorem inbX (k : Fin 32) : ∀ a, (![128 * k.val, 0] : Fin 2 → Nat) a + S128x128.size a ≤ S4096x128.size a := by
  revert k; decide

theorem inbY (k : Fin 32) : ∀ a, (![128 * k.val, 0] : Fin 2 → Nat) a + S128x2048.size a ≤ S4096x2048.size a := by
  revert k; decide

/-- The rectangle of slot `p` of a two-slot buffer. -/
abbrev slotR (p : Fin 2) : Rect S2x128x1024 :=
  Rect.unit (s := S2x128x1024) ![p.val, 0, 0] S1x128x1024.size (inbSlot p)

/-- Slot `p` of a two-slot buffer, as the transfers name it. -/
abbrev slotM (b : Memref sig .tc .vmem S2x128x1024 .f32) (p : Fin 2) : Memref sig .tc .vmem S128x1024 .f32 :=
  (b.slice (slotR p) (fun _ => rfl)).squeeze S128x1024 squeezes_S1x128x1024_S128x1024

/-- DMA semaphore `p` of a pair. -/
abbrev dsem (a : DmaSems sig S2) (p : Fin 2) : DmaSem sig :=
  ((a.slice (Rect.unit (s := S2) ![p.val] S1.size (inbSem p))).squeeze S_ squeezes_S1_S_).sem

/-- Regular semaphore `p` of a pair. -/
abbrev rsem (a : Sems sig S2) (p : Fin 2) : Sem sig :=
  ((a.slice (Rect.unit (s := S2) ![p.val] S1.size (inbSem p))).squeeze S_ squeezes_S1_S_).sem

/-- The barrier's semaphore. -/
abbrev barS : Sem sig := (SemArray.scalar (sig.barrier 0 rfl) : Sems sig S_).sem

/-- What one direction of the ring works with: its send and receive buffers, their semaphores, its credit semaphore,
    the corner of the row chunk it handles at each step, the device it sends to and the one it signals. -/
structure Dir where
  snd : Memref sig .tc .vmem S2x128x1024 .f32
  rcv : Memref sig .tc .vmem S2x128x1024 .f32
  ss : DmaSems sig S2
  rs : DmaSems sig S2
  cr : Sem sig
  off : ℕ → Fin 2 → ℕ
  inb : ∀ s a, off s a + S128x1024.size a ≤ S4096x2048.size a
  fwd : Dev nD
  bwd : Dev nD

/-- The corner of the chunk the rightward ring handles at step `s`. -/
def offR (c : Dev nD) (s : ℕ) : Fin 2 → ℕ :=
  if s = 0 then k0_off1 c else k0_off3 c (BitVec.ofNat 32 (4294967296 - s % 64))

/-- The corner of the chunk the leftward ring handles at step `s`. -/
def offL (c : Dev nD) (s : ℕ) : Fin 2 → ℕ :=
  if s = 0 then k0_off2 c else k0_off4 c (BitVec.ofNat 32 (s % 64))

/-- Row chunk of the rightward ring at step `s`: `c - s` around the ring. -/
def chR (c : Dev nD) (s : ℕ) : Fin 32 := ⟨(c.val + 64 - s % 64) % 32, Nat.mod_lt _ (by decide)⟩

/-- Row chunk of the leftward ring at step `s`: `c + s` around the ring. -/
def chL (c : Dev nD) (s : ℕ) : Fin 32 := ⟨(c.val + s % 64) % 32, Nat.mod_lt _ (by decide)⟩

theorem off1_eq : ∀ c : Dev nD, k0_off1 c 0 = 128 * (chR c 0).val ∧ k0_off1 c 1 = 0 := by decide +kernel

theorem off2_eq : ∀ c : Dev nD, k0_off2 c 0 = 128 * (chL c 0).val ∧ k0_off2 c 1 = 1024 := by decide +kernel

theorem off3_eq : ∀ (c : Dev nD) (r : Fin 64), k0_off3 c (BitVec.ofNat 32 (4294967296 - r.val)) 0
    = 128 * ((c.val + 64 - r.val) % 32) ∧ k0_off3 c (BitVec.ofNat 32 (4294967296 - r.val)) 1 = 0 := by decide +kernel

theorem off4_eq : ∀ (c : Dev nD) (r : Fin 64), k0_off4 c (BitVec.ofNat 32 r.val) 0
    = 128 * ((c.val + r.val) % 32) ∧ k0_off4 c (BitVec.ofNat 32 r.val) 1 = 1024 := by decide +kernel

theorem offR_eq (c : Dev nD) (s : ℕ) : offR c s = ![128 * (chR c s).val, 0] := by
  unfold offR
  split
  · next h => subst h; funext a; fin_cases a; exacts [(off1_eq c).1, (off1_eq c).2]
  · have h := off3_eq c ⟨s % 64, Nat.mod_lt _ (by decide)⟩
    funext a; fin_cases a; exacts [h.1, h.2]

theorem offL_eq (c : Dev nD) (s : ℕ) : offL c s = ![128 * (chL c s).val, 1024] := by
  unfold offL
  split
  · next h => subst h; funext a; fin_cases a; exacts [(off2_eq c).1, (off2_eq c).2]
  · have h := off4_eq c ⟨s % 64, Nat.mod_lt _ (by decide)⟩
    funext a; fin_cases a; exacts [h.1, h.2]

theorem inbChunk (k : Fin 32) (z : Fin 2) :
    ∀ a, (![128 * k.val, 1024 * z.val] : Fin 2 → Nat) a + S128x1024.size a ≤ S4096x2048.size a := by
  revert k z; decide

theorem inbR (c : Dev nD) (s : ℕ) : ∀ a, offR c s a + S128x1024.size a ≤ S4096x2048.size a := by
  rw [offR_eq]; exact inbChunk (chR c s) 0

theorem inbL (c : Dev nD) (s : ℕ) : ∀ a, offL c s a + S128x1024.size a ≤ S4096x2048.size a := by
  rw [offL_eq]; exact inbChunk (chL c s) 1

/-- The neighbour on the left. -/
def lft (c : Dev nD) : Dev nD := ⟨k0_dev1 c, k0_dev1_lt c⟩

/-- The neighbour on the right. -/
def rgt (c : Dev nD) : Dev nD := ⟨k0_dev2 c, k0_dev2_lt c⟩

/-! ## What the body computes -/

/-- The running sum, as the send slot holds it. -/
abbrev addV (rv : Vec F S1x128x1024 .f32) (o : Vec F S128x1024 .f32) : FVec F S1x128x1024 .f32 := k0_pay40 rv o
/-- The chunk of this device, as the send slot holds it at the first step. -/
abbrev fstV (o : Vec F S128x1024 .f32) : FVec F S1x128x1024 .f32 := k0_pay38 o
/-- The completed chunk, negatives cut off. -/
abbrev endV (rv : Vec F S1x128x1024 .f32) (o : Vec F S128x1024 .f32) : FVec F S128x1024 .f32 := k0_pay113 rv o
/-- Its largest entry. -/
abbrev endM (rv : Vec F S1x128x1024 .f32) (o : Vec F S128x1024 .f32) : F .f32 := k0_pay114 rv o
/-- A received chunk, as the send slot holds it. -/
abbrev cpyV (rv : Vec F S1x128x1024 .f32) : FVec F S1x128x1024 .f32 := k0_pay129 rv
/-- A received completed chunk, negatives cut off. -/
abbrev rluV (rv : Vec F S1x128x1024 .f32) : FVec F S128x1024 .f32 := k0_pay130 rv
/-- Its largest entry. -/
abbrev rluM (rv : Vec F S1x128x1024 .f32) : F .f32 := k0_pay131 rv
/-- One row chunk of this device's product. -/
abbrev dotV (x : Vec F S128x128 .f32) (w : Vec F S128x2048 .f32) : FVec F S128x2048 .f32 := k0_pay2 x w
/-- One row chunk rounded to the grid. -/
abbrev qntV (sc iv : F .f32) (v : Vec F S128x2048 .f32) : FVec F S128x2048 .f32 := k0_pay405 sc iv v

/-- A table of the largest entries seen, one entry changed. -/
def setAt (A : ℕ → F .f32) (i : ℕ) (v : F .f32) : ℕ → F .f32 := fun j => if j = i then v else A j

theorem cat64 (A : ℕ → F .f32) : Shape.Concatenates
    (((List.range 64).map fun i => (⟨S1, broadcast S1 (A i)⟩ : (sh : Shape) × FVec F sh .f32)).map (·.1)) S64 0 := by
  rw [List.map_map]
  exact (concatenates_S1_S1_S1_S1_S1_S1_S1_S1_S1_S1_S1_S1_S1_S1_S1_S1_S1_S1_S1_S1_S1_S1_S1_S1_S1_S1_S1_S1_S1_S1_S1_S1_S1_S1_S1_S1_S1_S1_S1_S1_S1_S1_S1_S1_S1_S1_S1_S1_S1_S1_S1_S1_S1_S1_S1_S1_S1_S1_S1_S1_S1_S1_S1_S1_S64_d0)

/-- The largest of the 64 entries of a table. -/
def topV (A : ℕ → F .f32) : F .f32 :=
  extractAt ![0, 0] (shapeCast S1x1 (multiReduction .maximumf [1] S1 (shapeCast S1x64
    (concatenate S64 0 ((List.range 64).map fun i => ⟨S1, broadcast S1 (A i)⟩) (cat64 A)) shapeCasts_S64_S1x64)
    0xFF800000#32 reduces_S1x64_S1 (.inl rfl) rfl) shapeCasts_S1_S1x1) inpos_S1x1_p0_0

/-- The grid's scale. -/
def scaleV (A : ℕ → F .f32) : F .f32 := Scalar.divf (topV A) (Scalar.ofBits .f32 0x43E00000#32)
/-- Its reciprocal, as the kernel forms it. -/
def invV (A : ℕ → F .f32) : F .f32 := Scalar.divf (Scalar.ofBits .f32 0x43E00000#32) (topV A)

/-! ## The loop -/

section Prog

variable (x : Memref sig .tc .vmem S4096x128 .f32) (w : Memref sig .tc .vmem S128x2048 .f32)
  (o : Memref sig .tc .vmem S4096x2048 .f32)

/-- Read slot `p` of a two-slot buffer. -/
abbrev getS (b : Memref sig .tc .vmem S2x128x1024 .f32) (p : Fin 2) : Act F (Vec F S1x128x1024 .f32) :=
  Prog.lift (.load b (slotR p).toLoadRect (View.loadsAt_vmem h_S1x128x1024))

/-- Write slot `p` of a two-slot buffer. -/
abbrev putS (b : Memref sig .tc .vmem S2x128x1024 .f32) (p : Fin 2) (v : Vec F S1x128x1024 .f32) : Act F PUnit :=
  Prog.lift (.store b (slotR p) v Finset.univ (View.stores_vmem_bits_univ h_S1x128x1024 rfl) (.inl rfl))

/-- Read the direction's chunk of step `s` from the output. -/
abbrev getO (D : Dir) (s : ℕ) : Act F (Vec F S128x1024 .f32) :=
  Prog.lift (.load o (Rect.unit (s := S4096x2048) (D.off s) S128x1024.size (D.inb s)).toLoadRect
    (View.loadsAt_vmem h_S128x1024))

/-- Write the direction's chunk of step `s` of the output. -/
abbrev putO (D : Dir) (s : ℕ) (v : Vec F S128x1024 .f32) : Act F PUnit :=
  Prog.lift (.store o (Rect.unit (s := S4096x2048) (D.off s) S128x1024.size (D.inb s)) v Finset.univ
    (View.stores_vmem_bits_univ h_S128x1024 rfl) (.inl rfl))

/-- Fill the send slot of step `s` (and, from step 31 on, put the completed chunk away); the entry the table gains. -/
def fill (D : Dir) (s : ℕ) (z : ℕ) (A : ℕ → F .f32) : Act F (ℕ → F .f32) :=
  if s = 0 then do
    let v ← getO o D s
    let _ ← getS D.snd (par s)
    putS D.snd (par s) (fstV v)
    pure A
  else if s < 31 then do
    let r ← getS D.rcv (par (s + 1))
    let v ← getO o D s
    let _ ← getS D.snd (par s)
    putS D.snd (par s) (addV r v)
    pure A
  else if s = 31 then do
    let r ← getS D.rcv (par (s + 1))
    let v ← getO o D s
    let _ ← getS D.snd (par s)
    putS D.snd (par s) (addV r v)
    let _ ← getO o D s
    putO o D s (endV r v)
    pure (setAt A z (endM r v))
  else do
    let r ← getS D.rcv (par (s + 1))
    let _ ← getS D.snd (par s)
    putS D.snd (par s) (cpyV r)
    let _ ← getO o D s
    putO o D s (rluV r)
    pure (setAt A z (rluM r))

/-- Tell the device behind that a receive slot is free again. -/
def give (D : Dir) (s : ℕ) : Act F PUnit :=
  if 1 ≤ s ∧ s ≤ 60 then semSignalWord D.bwd D.cr 1#32 else pure ⟨⟩

/-- Wait for the device ahead to have freed the slot about to be sent to. -/
def take (D : Dir) (s : ℕ) : Act F PUnit :=
  if 2 ≤ s then semWaitWord D.cr 1#32 else pure ⟨⟩

/-- Start the transfer of step `s`. -/
abbrev ship (D : Dir) (s : ℕ) : Act F PUnit :=
  Prog.lift (.enqueueDma (slotM D.snd (par s)) (.remote (Dev.tc D.fwd) (slotM D.rcv (par s)) (.dma (dsem D.ss (par s))))
    (.dma (dsem D.rs (par s))) ((View.wordExact_bits rfl).reshape _ _) ((View.wordExact_bits rfl).reshape _ _)
    ⟨⟨rfl, Or.inl rfl⟩, trivial⟩)

/-- Wait for the transfer of step `s` to have left. -/
abbrev sent (D : Dir) (s : ℕ) : Act F PUnit :=
  Prog.lift (.waitDma2 (dsem D.ss (par s)) (slotM D.rcv (par s)) (slotM D.snd (par s))
    ((View.wordExact_bits rfl).reshape _ _) ((View.wordExact_bits rfl).reshape _ _))

/-- Wait for the transfer of step `s` to have come in. -/
abbrev came (D : Dir) (s : ℕ) : Act F PUnit :=
  Prog.lift (.waitDma2 (dsem D.rs (par s)) (slotM D.snd (par s)) (slotM D.rcv (par s))
    ((View.wordExact_bits rfl).reshape _ _) ((View.wordExact_bits rfl).reshape _ _))

/-- One ring step, in both directions. -/
def ringStep (DR DL : Dir) (s : ℕ) (A : ℕ → F .f32) : Act F (ℕ → F .f32) := do
  let A₁ ← fill o DR s (2 * (s - 31)) A
  give DR s
  take DR s
  let A₂ ← fill o DL s (2 * (s - 31) + 1) A₁
  give DL s
  take DL s
  ship DR s
  ship DL s
  sent DR s
  came DR s
  sent DL s
  came DL s
  pure A₂

/-- The last received chunk, put away. -/
def last (D : Dir) (z : ℕ) (A : ℕ → F .f32) : Act F (ℕ → F .f32) := do
  let r ← getS D.rcv (par (62 + 1))
  let _ ← getO o D 62
  putO o D 62 (rluV r)
  pure (setAt A z (rluM r))

/-- Steps `s`, `s + 1`, …, `n` of them. -/
def ring (DR DL : Dir) : ℕ → ℕ → (ℕ → F .f32) → Act F (ℕ → F .f32)
  | 0, _, A => pure A
  | n + 1, s, A => do
    let A' ← ringStep o DR DL s A
    ring DR DL n (s + 1) A'

/-- Read row chunk `k` of the output. -/
abbrev getY (k : Fin 32) : Act F (Vec F S128x2048 .f32) :=
  Prog.lift (.load o (Rect.unit (s := S4096x2048) ![128 * k.val, 0] S128x2048.size (inbY k)).toLoadRect
    (View.loadsAt_vmem h_S128x2048))

/-- Write row chunk `k` of the output. -/
abbrev putY (k : Fin 32) (v : Vec F S128x2048 .f32) : Act F PUnit :=
  Prog.lift (.store o (Rect.unit (s := S4096x2048) ![128 * k.val, 0] S128x2048.size (inbY k)) v Finset.univ
    (View.stores_vmem_bits_univ h_S128x2048 rfl) (.inl rfl))

/-- Row chunk `k` of this device's product. -/
def dotStep (k : Fin 32) : Act F PUnit := do
  let a ← Prog.lift (.load x (Rect.unit (s := S4096x128) ![128 * k.val, 0] S128x128.size (inbX k)).toLoadRect
    (View.loadsAt_vmem h_S128x128))
  let b ← Prog.lift (.load w (Rect.unit (s := S128x2048) ![0, 0] S128x2048.size
    inb_S128x2048_S128x2048_0_0).toLoadRect (View.loadsAt_vmem h_S128x2048))
  let _ ← getY o k
  putY o k (dotV a b)

/-- Row chunk `k` of the output rounded to the grid. -/
def qntStep (sc iv : F .f32) (k : Fin 32) : Act F PUnit := do
  let v ← getY o k
  let _ ← getY o k
  putY o k (qntV sc iv v)

/-- A step for each row chunk from `k` on, `n` of them. -/
def each (f : Fin 32 → Act F PUnit) : ℕ → ℕ → Act F PUnit
  | 0, _ => pure ⟨⟩
  | n + 1, k => do
    f ⟨k % 32, Nat.mod_lt _ (by decide)⟩
    each f n (k + 1)

/-- Meet both neighbours. -/
def meet (c : Dev nD) : Act F PUnit := do
  semSignalWord (lft c) barS 1#32
  semSignalWord (rgt c) barS 1#32
  semWaitWord barS 2#32

/-- The body at device `c`. -/
def bodyAt (DR DL : Dev nD → Dir) (c : Dev nD) : Act F PUnit := do
  meet c
  each (dotStep x w o) 32 0
  let A ← ring o (DR c) (DL c) 62 0 (fun _ => Scalar.ofBits .f32 0x00000000#32)
  let A ← last o (DR c) 62 A
  let A ← last o (DL c) 63 A
  meet c
  each (qntStep o (scaleV A) (invV A)) 32 0

/-- The body. -/
def body (DR DL : Dev nD → Dir) : Act F PUnit := do
  let c ← Prog.lift .deviceId
  bodyAt x w o DR DL c

end Prog

/-- The rightward direction over given buffers. -/
def dirR (s r : Memref sig .tc .vmem S2x128x1024 .f32) (ss rs : DmaSems sig S2) (cr : Sems sig S2) (c : Dev nD) : Dir where
  snd := s
  rcv := r
  ss := ss
  rs := rs
  cr := rsem cr 0
  off := offR c
  inb := inbR c
  fwd := rgt c
  bwd := lft c

/-- The leftward direction over given buffers. -/
def dirL (s r : Memref sig .tc .vmem S2x128x1024 .f32) (ss rs : DmaSems sig S2) (cr : Sems sig S2) (c : Dev nD) : Dir where
  snd := s
  rcv := r
  ss := ss
  rs := rs
  cr := rsem cr 1
  off := offL c
  inb := inbL c
  fwd := lft c
  bwd := rgt c

end RingQ
-- ==== Proof.Sim.lean ====
module

public import proofs.«01_k».proof.Proof.Body

@[expose] public section

/-!
# What the ring computes, as a function

The buffers' contents step by step: each device's output array and table of largest entries before each ring step, and
what it has received, as functions of the devices' products.
-/

noncomputable section

namespace RingQ

open Idealize.ShloMosaic Idealize.SL.Sem
open Cert.Kernel Cert.Kernel.Gen

variable {F : FTy → Type} [FloatOps F]

/-! ## The buffers, by direction -/

abbrev xM : Memref sig .tc .vmem S4096x128 .f32 := Memref.whole cc0_stg0_0
abbrev wM : Memref sig .tc .vmem S128x2048 .f32 := Memref.whole cc0_stg1_0
abbrev oM : Memref sig .tc .vmem S4096x2048 .f32 := Memref.whole cc0_stg2_0

/-- The send buffer of a direction (`0` rightward, `1` leftward). -/
def sndM : Fin 2 → Memref sig .tc .vmem S2x128x1024 .f32
  | 0 => Memref.whole cc0_scratch0
  | 1 => Memref.whole cc0_scratch2
/-- The receive buffer of a direction. -/
def rcvM : Fin 2 → Memref sig .tc .vmem S2x128x1024 .f32
  | 0 => Memref.whole cc0_scratch1
  | 1 => Memref.whole cc0_scratch3
/-- The send semaphores of a direction. -/
def ssA : Fin 2 → DmaSems sig S2
  | 0 => cc0_scratch4
  | 1 => cc0_scratch6
/-- The receive semaphores of a direction. -/
def rsA : Fin 2 → DmaSems sig S2
  | 0 => cc0_scratch5
  | 1 => cc0_scratch7
/-- The credit semaphore of a direction. -/
def crS (d : Fin 2) : Sem sig := rsem cc0_scratch8 d

/-- The device a direction sends to. -/
def fwd : Fin 2 → Dev nD → Dev nD
  | 0, c => rgt c
  | 1, c => lft c
/-- The device a direction receives from. -/
def bwd : Fin 2 → Dev nD → Dev nD
  | 0, c => lft c
  | 1, c => rgt c

theorem fwd_bwd (d : Fin 2) (c : Dev nD) : fwd d (bwd d c) = c := by revert d c; decide +kernel
theorem bwd_fwd (d : Fin 2) (c : Dev nD) : bwd d (fwd d c) = c := by revert d c; decide +kernel

/-- The row chunk a direction handles at step `s`. -/
def ch : Fin 2 → Dev nD → ℕ → Fin 32
  | 0 => chR
  | 1 => chL

/-- The corner of that chunk. -/
def offD : Fin 2 → Dev nD → ℕ → Fin 2 → ℕ
  | 0 => offR
  | 1 => offL

theorem offD_eq (d : Fin 2) (c : Dev nD) (s : ℕ) : offD d c s = ![128 * (ch d c s).val, 1024 * d.val] := by
  match d with
  | 0 => exact offR_eq c s
  | 1 => exact offL_eq c s

theorem inbD (d : Fin 2) (c : Dev nD) (s : ℕ) : ∀ a, offD d c s a + S128x1024.size a ≤ S4096x2048.size a := by
  rw [offD_eq]; exact inbChunk _ _

/-- A direction at a device. -/
def dirOf (d : Fin 2) (c : Dev nD) : Dir where
  snd := sndM d
  rcv := rcvM d
  ss := ssA d
  rs := rsA d
  cr := crS d
  off := offD d c
  inb := inbD d c
  fwd := fwd d c
  bwd := bwd d c

theorem dirOf_zero : dirOf 0 = dirR (Memref.whole cc0_scratch0) (Memref.whole cc0_scratch1) cc0_scratch4 cc0_scratch5 cc0_scratch8 := rfl
theorem dirOf_one : dirOf 1 = dirL (Memref.whole cc0_scratch2) (Memref.whole cc0_scratch3) cc0_scratch6 cc0_scratch7 cc0_scratch8 := rfl

/-! ## Contents of the output array -/

/-- Contents of the output array. -/
abbrev OutC (F : FTy → Type) : Type := (cc0_stg2_0 : Ref sig .tc).ty.Contents (Elt F)

/-- The chunk's rectangle. -/
abbrev chRect (d : Fin 2) (c : Dev nD) (s : ℕ) : Rect S4096x2048 :=
  Rect.unit (s := S4096x2048) (offD d c s) S128x1024.size (inbD d c s)

/-- The rows' rectangle. -/
abbrev rowRect (k : Fin 32) : Rect S4096x2048 :=
  Rect.unit (s := S4096x2048) ![128 * k.val, 0] S128x2048.size (inbY k)

def rdCh (d : Fin 2) (c : Dev nD) (s : ℕ) (f : OutC F) : Vec F S128x1024 .f32 :=
  oM.view.readAt (Elt F) (chRect d c s).toLoadRect f
def wrCh (d : Fin 2) (c : Dev nD) (s : ℕ) (f : OutC F) (v : Vec F S128x1024 .f32) : OutC F :=
  (oM.access (chRect d c s)).write (Elt F) f v Finset.univ
def rdRow (k : Fin 32) (f : OutC F) : Vec F S128x2048 .f32 :=
  oM.view.readAt (Elt F) (rowRect k).toLoadRect f
def wrRow (k : Fin 32) (f : OutC F) (v : Vec F S128x2048 .f32) : OutC F :=
  (oM.access (rowRect k)).write (Elt F) f v Finset.univ

/-- Row `r` lies in chunk `r / 128`. -/
def rowOf (i : S4096x2048.Idx) : Fin 32 := ⟨(i 0).val / 128, by have := (i 0).isLt; change (i 0).val < 4096 at this; omega⟩
/-- Its place there. -/
def inRow (i : S4096x2048.Idx) : S128x2048.Idx
  | 0 => (⟨(i 0).val % 128, Nat.mod_lt _ (by decide)⟩ : Fin 128)
  | 1 => (i 1 : Fin 2048)

/-- The array of given row chunks. -/
def asm (g : Fin 32 → Vec F S128x2048 .f32) : OutC F := fun i => g (rowOf i) (inRow i)

theorem row_emb (k : Fin 32) (y : S128x2048.Idx) :
    rowOf ((rowRect k).emb y) = k ∧ inRow ((rowRect k).emb y) = y := by
  have h0 : (((rowRect k).emb y) 0).val = 128 * k.val + (y 0).val := by simp [Rect.emb, Rect.unit]
  have h1 : (((rowRect k).emb y) 1).val = (y 1).val := by simp [Rect.emb, Rect.unit]
  have hy : (y 0).val < 128 := (y 0).isLt
  constructor
  · apply Fin.ext; simp only [rowOf, h0]; omega
  · funext a
    match a with
    | 0 => apply Fin.ext; show (((rowRect k).emb y) 0).val % 128 = _; rw [h0]; omega
    | 1 => apply Fin.ext; exact h1

theorem emb_row (i : S4096x2048.Idx) : (rowRect (rowOf i)).emb (inRow i) = i := by
  funext a
  match a with
  | 0 =>
    apply Fin.ext
    have : (((rowRect (rowOf i)).emb (inRow i)) 0).val = 128 * ((i 0).val / 128) + (i 0).val % 128 := by
      simp [Rect.emb, Rect.unit, rowOf]; rfl
    rw [this]; omega
  | 1 =>
    apply Fin.ext
    have : (((rowRect (rowOf i)).emb (inRow i)) 1).val = (i 1).val := by
      simp [Rect.emb, Rect.unit]; rfl
    exact this

theorem rdRow_asm (k : Fin 32) (g : Fin 32 → Vec F S128x2048 .f32) : rdRow k (asm g) = g k := by
  funext y
  have h := row_emb k y
  show asm g ((rowRect k).emb y) = g k y
  unfold asm; rw [h.1, h.2]

theorem asm_rdRow (f : OutC F) : asm (fun k => rdRow k f) = f := by
  funext i
  show f ((rowRect (rowOf i)).emb (inRow i)) = f i
  rw [emb_row]

theorem wrRow_asm (k : Fin 32) (g : Fin 32 → Vec F S128x2048 .f32) (v : Vec F S128x2048 .f32) :
    wrRow k (asm g) v = asm (Function.update g k v) := by
  funext i
  by_cases hk : rowOf i = k
  · subst hk
    have h : wrRow (rowOf i) (asm g) v ((oM.access (rowRect (rowOf i))).emb (inRow i)) = v (inRow i) :=
      View.write_emb_of_mem (v := oM.access (rowRect (rowOf i))) (asm g) v (Finset.mem_univ _)
    rw [show (oM.access (rowRect (rowOf i))).emb (inRow i) = i from emb_row i] at h
    rw [h]; unfold asm; rw [Function.update_self]
  · have h : wrRow k (asm g) v i = asm g i :=
      View.write_of_not_mem (v := oM.access (rowRect k)) (asm g) v Finset.univ (by
        rw [View.setOn, Finset.mem_map]
        rintro ⟨y, -, hy⟩
        exact hk (by rw [← hy]; exact (row_emb k y).1))
    rw [h]; unfold asm; rw [Function.update_of_ne hk]

/-! ## The steps -/

/-- What the ring has done before a step on one device: the output array, the table, what came in each direction. -/
structure PSt (F : FTy → Type) where
  f : OutC F
  A : ℕ → F .f32
  rv : Fin 2 → Vec F S1x128x1024 .f32

/-- What a direction sends at step `s`. -/
def fillV (d : Fin 2) (c : Dev nD) (s : ℕ) (r : Vec F S1x128x1024 .f32) (f : OutC F) : Vec F S1x128x1024 .f32 :=
  if s = 0 then fstV (rdCh d c s f) else if s < 32 then addV r (rdCh d c s f) else cpyV r

/-- The output array after a direction's work at step `s`. -/
def fillO (d : Fin 2) (c : Dev nD) (s : ℕ) (r : Vec F S1x128x1024 .f32) (f : OutC F) : OutC F :=
  if s < 31 then f else if s = 31 then wrCh d c s f (endV r (rdCh d c s f)) else wrCh d c s f (rluV r)

/-- The table after it. -/
def fillA (d : Fin 2) (c : Dev nD) (s : ℕ) (r : Vec F S1x128x1024 .f32) (f : OutC F) (A : ℕ → F .f32) : ℕ → F .f32 :=
  if s < 31 then A else if s = 31 then setAt A (2 * (s - 31) + d.val) (endM r (rdCh d c s f))
    else setAt A (2 * (s - 31) + d.val) (rluM r)

/-- The output array half way through step `s`: what the leftward direction finds. -/
def midO (d : Fin 2) (c : Dev nD) (s : ℕ) (p : PSt F) : OutC F :=
  match d with
  | 0 => p.f
  | 1 => fillO 0 c s (p.rv 0) p.f

/-- What a device sends at step `s`. -/
def sendV (d : Fin 2) (c : Dev nD) (s : ℕ) (p : PSt F) : Vec F S1x128x1024 .f32 := fillV d c s (p.rv d) (midO d c s p)

/-- Before step `s`, on each device, from the devices' products `Y`. -/
def pst (Y : Dev nD → OutC F) : ℕ → Dev nD → PSt F
  | 0, c => ⟨Y c, fun _ => Scalar.ofBits .f32 0x00000000#32, fun _ _ => Scalar.ofBits .f32 0x00000000#32⟩
  | s + 1, c =>
    ⟨fillO 1 c s ((pst Y s c).rv 1) (midO 1 c s (pst Y s c)),
      fillA 1 c s ((pst Y s c).rv 1) (midO 1 c s (pst Y s c)) (fillA 0 c s ((pst Y s c).rv 0) (pst Y s c).f (pst Y s c).A),
      fun d => sendV d (bwd d c) s (pst Y s (bwd d c))⟩

/-- One row chunk of a device's product, from its blocks of the operands. -/
def dotRow (X : (cc0_stg0_0 : Ref sig .tc).ty.Contents (Elt F)) (W : (cc0_stg1_0 : Ref sig .tc).ty.Contents (Elt F)) (k : Fin 32) :
    Vec F S128x2048 .f32 :=
  dotV (xM.view.readAt (Elt F) (Rect.unit (s := S4096x128) ![128 * k.val, 0] S128x128.size (inbX k)).toLoadRect X)
    (wM.view.readAt (Elt F) (Rect.unit (s := S128x2048) ![0, 0] S128x2048.size inb_S128x2048_S128x2048_0_0).toLoadRect W)

/-- The product. -/
def prodO (X : (cc0_stg0_0 : Ref sig .tc).ty.Contents (Elt F)) (W : (cc0_stg1_0 : Ref sig .tc).ty.Contents (Elt F)) : OutC F :=
  asm (dotRow X W)

/-- The result on a device: the reduced array, rounded to the grid. -/
def outO (Y : Dev nD → OutC F) (c : Dev nD) : OutC F :=
  asm fun k => qntV (scaleV (pst Y 63 c).A) (invV (pst Y 63 c).A) (rdRow k (pst Y 63 c).f)

end RingQ
-- ==== Proof.Proto.lean ====
module

public import proofs.«01_k».proof.Proof.Sim
public import proofs.«01_k».proof.Proof.Gen.Kernel.Launch
public import Idealize.ShloMosaic.Lib.Pipeline.Launch
public import Idealize.ShloMosaic.Lib.Pipeline.Kit
public import Idealize.ShloMosaic.Lib.Release
public import Idealize.ShloMosaic.Lib.Tactic
public import Idealize.ShloMosaic.Lib.ViewIndex

@[expose] public section

/-!
# The protocol of the ring

Per device eleven semaphore cells: per direction a send and a receive cell for each of the two slots and a credit cell,
and the barrier's. A receive slot goes back to the device that writes it through an invariant; the facts of its releases
travel on the barrier's and the credit cells' signals.
-/

noncomputable section

namespace RingQ

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)
open Cert.Kernel Cert.Kernel.Gen

variable {F : FTy → Type} [FloatOps F]

/-! ## The ghost state -/

/-- A receive slot: the device it is on, its direction, its place. -/
abbrev Key : Type := Dev nD × Fin 2 × Fin 2

abbrev UU : Type := UR sig nD τ × (URounds (GSem nD τ sig) ℕ × USlots Key)

instance instUU : URA UU := inferInstanceAs (URA (UR sig nD τ × (URounds (GSem nD τ sig) ℕ × USlots Key)))

local notation "𝕄" => MT nD τ sig ℕ (Elt F) ℕ UU ℕ

abbrev EP : Emb (UR sig nD τ) (MT nD τ sig ℕ (Elt F) ℕ UU ℕ) := embL
abbrev ER : Emb (URounds (GSem nD τ sig) ℕ) (MT nD τ sig ℕ (Elt F) ℕ UU ℕ) :=
  (Emb.inl : Emb (URounds (GSem nD τ sig) ℕ) (URounds (GSem nD τ sig) ℕ × USlots Key)).trans embR
abbrev EK : Emb (USlots Key) (MT nD τ sig ℕ (Elt F) ℕ UU ℕ) :=
  (Emb.inr : Emb (USlots Key) (URounds (GSem nD τ sig) ℕ × USlots Key)).trans embR

abbrev 𝒱₀ : Variants := Variants.none

/-! ## The cells -/

inductive Kind where
  | snd (d p : Fin 2)
  | rcv (d p : Fin 2)
  | crd (d : Fin 2)
  | bar
deriving DecidableEq

/-- The kinds of the region's own cells, by direction. -/
def kinds : List Kind :=
  [.snd 0 0, .snd 0 1, .rcv 0 0, .rcv 0 1, .snd 1 0, .snd 1 1, .rcv 1 0, .rcv 1 1, .crd 0, .crd 1]

instance : Fintype Kind where
  elems := ⟨.bar :: kinds, by decide⟩
  complete k := by revert k; rintro (⟨d, p⟩ | ⟨d, p⟩ | d | _) <;> first | (revert d p; decide) | (revert d; decide) | decide

/-- A kind's semaphore. -/
def semOf : Kind → SemLoc sig
  | .snd d p => .dma (dsem (ssA d) p)
  | .rcv d p => .dma (dsem (rsA d) p)
  | .crd d => .reg (crS d)
  | .bar => .reg barS

theorem semOf_injective : Function.Injective semOf := by
  have h : ∀ a b : Kind, semOf a = semOf b → a = b := by decide
  exact fun a b => h a b

/-- A device's cell of a kind. -/
abbrev cell (c : Dev nD) (k : Kind) : GSem nD τ sig := ((c : Thread nD τ), semOf k)

theorem cell_inj {c c' : Dev nD} {k k' : Kind} (h : cell c k = cell c' k') : c = c' ∧ k = k' :=
  ⟨Fin.ext (congrArg (fun g : GSem nD τ sig => g.1.1.val) h), semOf_injective (congrArg Prod.snd h)⟩

theorem cell_injective : Function.Injective fun x : Dev nD × Kind => cell x.1 x.2 := fun _ _ h =>
  Prod.ext (cell_inj h).1 (cell_inj h).2

/-- The kind of a cell, if it has one. -/
def kindOf (g : GSem nD τ sig) : Option (Dev nD × Kind) := by
  classical exact if h : ∃ x : Dev nD × Kind, cell x.1 x.2 = g then some h.choose else none

theorem kindOf_cell (c : Dev nD) (k : Kind) : kindOf (cell c k) = some (c, k) := by
  have h : ∃ x : Dev nD × Kind, cell x.1 x.2 = cell c k := ⟨(c, k), rfl⟩
  unfold kindOf
  rw [dif_pos h, cell_injective (a₁ := h.choose) (a₂ := (c, k)) h.choose_spec]

theorem kindOf_none {g : GSem nD τ sig} (h : ∀ k, g.2 ≠ semOf k) : kindOf g = none := by
  unfold kindOf
  rw [dif_neg]
  rintro ⟨x, rfl⟩; exact h x.2 rfl

/-! ## The slots -/

/-- A slot of a two-slot buffer of device `c`, at contents `f`. -/
def slotPts (b : Memref sig .tc .vmem S2x128x1024 .f32) (p : Fin 2) (c : Dev nD)
    (f : Buf (Elt F) ((slotM b p).view.loc (c : Thread nD τ))) : sProp 𝕄 :=
  (slotM b p).view.loc (c : Thread nD τ) ↦[(slotM b p).view.set]{fullShare} f

/-- The entries of a slot. -/
def rdS (b : Memref sig .tc .vmem S2x128x1024 .f32) (p : Fin 2) (c : Dev nD)
    (f : Buf (Elt F) ((slotM b p).view.loc (c : Thread nD τ))) : Vec F S1x128x1024 .f32 :=
  b.view.readAt (Elt F) (slotR p).toLoadRect f

/-- A slot at any contents. -/
abbrev slotAny (b : Memref sig .tc .vmem S2x128x1024 .f32) (p : Fin 2) (c : Dev nD) : sProp 𝕄 :=
  slot ((slotM b p).view.loc (c : Thread nD τ)) (slotM b p).view.set

/-- A slot holding the entries `v`. -/
def slotVal (b : Memref sig .tc .vmem S2x128x1024 .f32) (p : Fin 2) (c : Dev nD) (v : Vec F S1x128x1024 .f32) : sProp 𝕄 :=
  iprop(∃ f, slotPts b p c f ∗ ⌜rdS b p c f = v⌝)

instance slotPts_storable (b p) (c : Dev nD) (f) : BI.Storable (upEmb : UEmb _ 𝕄) (slotPts (F := F) b p c f) := by
  unfold slotPts; infer_instance
instance slotVal_storable (b p) (c : Dev nD) (v) : BI.Storable (upEmb : UEmb _ 𝕄) (slotVal (F := F) b p c v) := by
  unfold slotVal; infer_instance

theorem slotVal_any (b : Memref sig .tc .vmem S2x128x1024 .f32) (p : Fin 2) (c : Dev nD) (v : Vec F S1x128x1024 .f32) :
    slotVal b p c v ⊢ slotAny b p c := by
  unfold slotVal slotAny slot
  iintro ⟨%f, H, -⟩
  iexists f; unfold slotPts; iexact H

/-- A slot's set is the one its loads and stores name. -/
theorem slot_set (b : Memref sig .tc .vmem S2x128x1024 .f32) (p : Fin 2) :
    (slotM b p).view.set = (b.access (slotR p)).set := View.set_reshape _ _

/-- What a transfer delivers, read as the loads read it. -/
theorem rdS_landed (b b' : Memref sig .tc .vmem S2x128x1024 .f32) (p : Fin 2) (c c' : Dev nD)
    (fd : Buf (Elt F) ((slotM b' p).view.loc (c' : Thread nD τ))) (fs : Buf (Elt F) ((slotM b p).view.loc (c : Thread nD τ))) :
    rdS b' p c' ((slotM b' p).view.write (Elt F) fd ((slotM b p).view.read (Elt F) fs) Finset.univ) = rdS b p c fs := by
  funext y
  obtain ⟨x, rfl⟩ := (Shape.reshapeEquiv squeezes_S1x128x1024_S128x1024.numel_eq).surjective y
  exact View.read_write_reshape (v := b'.access (slotR p)) _ _ _ x

/-! ## The facts that travel -/

/-- The write of step `s` may take its receive slot on `c`: the slot has been released for it, its cell has come to the
    step's round. -/
def free (d : Fin 2) (c : Dev nD) (s : ℕ) : sProp 𝕄 :=
  iprop(released EK (c, d, par s) (s / 2 + 1) ∗ reached ER (cell c (.rcv d (par s))) (s / 2))

instance free_persistent (d : Fin 2) (c : Dev nD) (s : ℕ) : BI.Persistent (free (F := F) d c s) := by unfold free; infer_instance
instance free_storable (d : Fin 2) (c : Dev nD) (s : ℕ) : BI.Storable (upEmb : UEmb _ 𝕄) (free (F := F) d c s) := by
  unfold free; infer_instance

theorem free_mono (d : Fin 2) (c : Dev nD) {s s' : ℕ} (h : s' ≤ s) (hp : par s' = par s) : free d c s ⊢ (free d c s' : sProp 𝕄) := by
  unfold free; rw [hp]
  exact BI.sep_mono (released_mono EK (by omega)) (reached_mono ER (by omega))

/-! ## The schedule -/

abbrev N : ℕ := (slotM (rcvM 0) 0).view.dmaCredit
theorem N_pos : 0 < N := View.dmaCredit_pos _ (by decide)

/-- The direction whose neighbour pays a duty of the barrier. -/
abbrev dirJ (j : ℕ) : Fin 2 := par j

def dutiesK : Kind → ℕ → Finset ℕ
  | .snd _ _, r => if r < 31 then {0} else ∅
  | .rcv _ _, r => if r < 31 then {0} else ∅
  | .crd _, r => if r = 0 then Finset.range 60 else ∅
  | .bar, r => if r < 2 then Finset.range 2 else ∅

def amountK : Kind → ℕ
  | .snd _ _ => N
  | .rcv _ _ => N
  | .crd _ => 1
  | .bar => 1

/-- What the ring sends: by direction, device and step. -/
abbrev Sent (F : FTy → Type) : Type := Fin 2 → Dev nD → ℕ → Vec F S1x128x1024 .f32

/-- What lands in a receive slot, and that its sender has passed the entry barrier. -/
def gotten (d p : Fin 2) (c : Dev nD) (v : Vec F S1x128x1024 .f32) : sProp 𝕄 :=
  iprop(slotVal (rcvM d) p c v ∗ reached ER (cell (bwd d c) .bar) 1)

instance gotten_storable (d p) (c : Dev nD) (v) : BI.Storable (upEmb : UEmb _ 𝕄) (gotten (F := F) d p c v) := by
  unfold gotten; infer_instance

variable (V : Sent F)

def payK (c : Dev nD) : Kind → ℕ → ℕ → sProp 𝕄
  | .snd d p, _, _ => slotAny (sndM d) p c
  | .rcv d p, r, _ => gotten d p c (V d (bwd d c) (2 * r + p.val))
  | .crd d, _, j => iprop(free d (fwd d c) (j + 1) ∗ free d (fwd d c) (j + 2))
  | .bar, r, j => if r = 0 then iprop(free (dirJ j) (fwd (dirJ j) c) 0 ∗ free (dirJ j) (fwd (dirJ j) c) 1) else iprop(emp)

instance payK_storable (c : Dev nD) (k : Kind) (r j : ℕ) : BI.Storable (upEmb : UEmb _ 𝕄) (payK V c k r j) := by
  cases k with
  | bar => unfold payK; dsimp only; split <;> infer_instance
  | _ => unfold payK; infer_instance

def Rd : Rounds.Schedule (GSem nD τ sig) ℕ 𝕄 where
  duties g r := match kindOf g with
    | some x => dutiesK x.2 r
    | none => ∅
  unitless _ := False
  amount g _ _ := match kindOf g with
    | some x => amountK x.2
    | none => 1
  payload g r j := match kindOf g with
    | some x => payK V x.1 x.2 r j
    | none => iprop(emp)
  amount_pos g _ _ _ := by
    cases kindOf g with
    | none => exact Nat.one_pos
    | some x => obtain ⟨c, k⟩ := x; cases k <;> first | exact N_pos | exact Nat.one_pos

instance Rd_payload_storable (g : GSem nD τ sig) (r j : ℕ) : BI.Storable (upEmb : UEmb _ 𝕄) ((Rd V).payload g r j) := by
  unfold Rd; dsimp only; split <;> infer_instance

theorem duties_cell (c : Dev nD) (k : Kind) (r : ℕ) : (Rd V).duties (cell c k) r = dutiesK k r := by
  unfold Rd; dsimp only; rw [kindOf_cell]
theorem amount_cell (c : Dev nD) (k : Kind) (r j : ℕ) : (Rd V).amount (cell c k) r j = amountK k := by
  unfold Rd; dsimp only; rw [kindOf_cell]
theorem payload_cell (c : Dev nD) (k : Kind) (r j : ℕ) : (Rd V).payload (cell c k) r j = payK V c k r j := by
  unfold Rd; dsimp only; rw [kindOf_cell]
theorem expect_cell (c : Dev nD) (k : Kind) (r : ℕ) : (Rd V).expect (cell c k) r = (dutiesK k r).card * amountK k := by
  unfold Rounds.Schedule.expect Rounds.Schedule.amountOf
  rw [duties_cell, Finset.sum_congr rfl fun j _ => amount_cell V c k r j, Finset.sum_const, smul_eq_mul]

/-! ## Levels and what is owed -/

def lvK : Kind → ℕ → ℕ
  | .snd _ _, _ => 0
  | .rcv _ _, i => 2 * i + 2
  | .crd _, i => 2 * i + 3
  | .bar, i => if i = 0 then 1 else 1000

def lv (g : GSem nD τ sig) (i : ℕ) : ℕ := match kindOf g with
  | some x => lvK x.2 i
  | none => 0

def L (g : GSem nD τ sig) : Finset ℕ := if g.1.2 = .tc then Finset.range 64 else ∅

theorem L_of_ne (g : GSem nD τ sig) (h : g.1.2 ≠ .tc) : L g = ∅ := if_neg h
theorem L_tc (c : Dev nD) (sm : SemLoc sig) : L ((c : Thread nD τ), sm) = Finset.range 64 := if_pos rfl
theorem lv_cell (c : Dev nD) (k : Kind) (i : ℕ) : lv (cell c k) i = lvK k i := by unfold lv; rw [kindOf_cell]

abbrev Owe : Type := CellTallies nD τ sig ℕ

/-- Everything owed lies above level `b`. -/
def Above (b : ℕ) (O : Owe) : Prop := ∀ g i, 0 < O g i → i ∈ L g ∧ b < lv g i

theorem above_zero (b : ℕ) : Above b 0 := fun g i h => absurd h (by simp)
theorem above_add {b : ℕ} {O O' : Owe} (h : Above b O) (h' : Above b O') : Above b (O + O') := fun g i hp => by
  rw [Pi.add_apply, Finsupp.add_apply] at hp
  rcases Nat.eq_zero_or_pos (O g i) with h0 | h0
  · exact h' g i (by omega)
  · exact h g i h0
theorem above_tally {b : ℕ} (c : Dev nD) (k : Kind) (i n : ℕ) (hi : i < 64) (hb : b < lvK k i) : Above b (tallyAt (cell c k) i n) :=
  fun g j hp => by
    rw [tallyAt_apply] at hp
    split at hp
    · next h => rw [h.1, h.2, L_tc, lv_cell]; exact ⟨Finset.mem_range.mpr hi, hb⟩
    · exact absurd hp (Nat.lt_irrefl 0)

theorem mayOwe_above {b : ℕ} {O : Owe} (h : Above b O) (c : Dev nD) (sm : SemLoc sig) (i : ℕ) (hi : i < 64)
    (hb : lv ((c : Thread nD τ), sm) i ≤ b) : (levAts L lv : sProp 𝕄) ⊢ MayWait (c : Thread nD τ) sm i O :=
  MayOwe.of_cut (L := L) (lev := lv) b
    (fun p hp => by rw [Finset.mem_singleton.mp hp, L_tc]; exact Finset.mem_range.mpr hi)
    (fun g u hg => (h g u hg).1) (fun p hp => by rw [Finset.mem_singleton.mp hp]; exact hb) (fun g u hg => (h g u hg).2)

/-- Owed at step `i` to the device ahead: a slot's transfer. -/
def oweR (d : Fin 2) (c : Dev nD) (i : ℕ) : Owe := tallyAt (cell (fwd d c) (.rcv d (par i))) i N
/-- Owed at step `i` to the device behind: a credit. -/
def oweC (d : Fin 2) (c : Dev nD) (i : ℕ) : Owe := if 1 ≤ i ∧ i ≤ 60 then tallyAt (cell (bwd d c) (.crd d)) i 1 else 0
/-- Owed at a meeting. -/
def oweB (c : Dev nD) (i : ℕ) : Owe := tallyAt (cell (rgt c) .bar) i 1 + tallyAt (cell (lft c) .bar) i 1
/-- Owed over `n` steps from `s` on, and at the last meeting. -/
def oweS (c : Dev nD) : ℕ → ℕ → Owe
  | 0, _ => oweB c 1
  | n + 1, s => oweS c n (s + 1) + oweR 1 c s + oweR 0 c s + oweC 1 c s + oweC 0 c s

theorem above_oweR {b : ℕ} (d : Fin 2) (c : Dev nD) (i : ℕ) (hi : i < 64) (hb : b < 2 * i + 2) : Above b (oweR d c i) :=
  above_tally _ _ _ _ hi hb
theorem above_oweC {b : ℕ} (d : Fin 2) (c : Dev nD) (i : ℕ) (hb : b < 2 * i + 3) : Above b (oweC d c i) := by
  unfold oweC; split
  · next h => exact above_tally _ _ _ _ (by omega) hb
  · exact above_zero b
theorem above_oweB {b : ℕ} (c : Dev nD) (hb : b < 1000) : Above b (oweB c 1) :=
  above_add (above_tally _ _ _ _ (by decide) hb) (above_tally _ _ _ _ (by decide) hb)
theorem above_oweS {b : ℕ} (c : Dev nD) (n s : ℕ) (hs : s + n ≤ 62) (hb : b < 2 * s + 2) : Above b (oweS c n s) := by
  induction n generalizing s with
  | zero => exact above_oweB c (by omega)
  | succ n ih =>
    exact above_add (above_add (above_add (above_add (ih (s + 1) (by omega) (by omega)) (above_oweR 1 c s (by omega) hb))
      (above_oweR 0 c s (by omega) hb)) (above_oweC 1 c s (by omega))) (above_oweC 0 c s (by omega))

/-- Everything a device owes. -/
def O₀ (c : Dev nD) : Owe := oweS c 62 0 + oweB c 0

theorem above_O₀ (c : Dev nD) : Above 0 (O₀ c) :=
  above_add (above_oweS c 62 0 (by decide) (by decide))
    (above_add (above_tally _ _ _ _ (by decide) (by decide)) (above_tally _ _ _ _ (by decide) (by decide)))

end RingQ
-- ==== Proof.Mem.lean ====
module

public import proofs.«01_k».proof.Proof.Proto

@[expose] public section

/-!
# The body's loads and stores

One rule per access of the body, and from them the rules of the work a ring step does on a device's own buffers, of the
products and of the rounding.
-/

noncomputable section

namespace RingQ

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.Kernel Cert.Kernel.Gen

variable {F : FTy → Type} [FloatOps F]

local notation "𝕄" => MT nD τ sig ℕ (Elt F) ℕ UU ℕ

/-- A run of a program on device `c`. -/
abbrev WP (c : Dev nD) {α : Type} (p : Act F α) (Q : α → sProp (MT nD τ sig ℕ (Elt F) ℕ UU ℕ)) : sProp (MT nD τ sig ℕ (Elt F) ℕ UU ℕ) :=
  wp frame (wpE (defs₀ (F := F)) 𝒱₀ (c : Thread nD τ) none) Set.univ p Q

/-- The output array of device `c` at contents `f`. -/
def outPts (c : Dev nD) (f : OutC F) : sProp 𝕄 := ((c : Thread nD τ).loc cc0_stg2_0) ↦{fullShare} f

variable (c : Dev nD)

theorem wp_pure {α : Type} (a : α) (Q : α → sProp 𝕄) : Q a ⊢ WP c (pure a : Act F α) Q := by
  show Q a ⊢ wp frame (wpE (defs₀ (F := F)) 𝒱₀ (c : Thread nD τ) none) Set.univ (.ret a) Q
  rw [wp_ret]; iintro H; imodintro; iexact H

theorem wp_do {α β : Type} (p : Act F α) (k : α → Act F β) (Q : β → sProp 𝕄) :
    WP c p (fun a => WP c (k a) Q) ⊢ WP c (p >>= k) Q := by unfold WP; rw [wp_bind]

theorem wp_getS (b : Memref sig .tc .vmem S2x128x1024 .f32) (p : Fin 2) (f) (Q : Vec F S1x128x1024 .f32 → sProp 𝕄) :
    slotPts b p c f ⊢ (slotPts b p c f -∗ Q (rdS b p c f)) -∗ WP c (getS b p) Q := by
  unfold slotPts rdS getS Prog.lift
  iintro H Hk
  iapply (wp_load 𝒱₀ (c : Thread nD τ) none Set.univ (m := b) (r := (slotR p).toLoadRect)
    (by rw [slot_set]; exact (View.set_slice _ _).ge)) $$ H
  iintro H
  rw [wp_ret]; imodintro
  iapply Hk; iexact H

theorem wp_putS (b : Memref sig .tc .vmem S2x128x1024 .f32) (p : Fin 2) (v : Vec F S1x128x1024 .f32) (f) (Q : PUnit → sProp 𝕄) :
    slotPts b p c f ⊢ (slotVal b p c v -∗ Q ⟨⟩) -∗ WP c (putS b p v) Q := by
  unfold slotVal slotPts putS Prog.lift
  iintro H Hk
  iapply (wp_store 𝒱₀ (c : Thread nD τ) none Set.univ (m := b) (r := slotR p) (Mk := Finset.univ)
    (by rw [slot_set]; exact Finset.Subset.refl _)) $$ H
  iintro H
  rw [wp_ret]; imodintro
  iapply Hk
  iexists _
  isplitl [H]; · iexact H
  ipureintro
  exact View.read_write_univ (v := b.access (slotR p)) f v

/-- A store to a slot, after the load that the body drops. -/
theorem wp_setS (b : Memref sig .tc .vmem S2x128x1024 .f32) (p : Fin 2) (v : Vec F S1x128x1024 .f32) {β : Type} (k : Act F β)
    (Q : β → sProp 𝕄) :
    slotAny b p c ⊢ (slotVal b p c v -∗ WP c k Q) -∗ WP c (do let _ ← getS b p; putS b p v; k) Q := by
  unfold slotAny slot
  iintro ⟨%f, H⟩ Hk
  iapply (wp_do c)
  iapply (wp_getS c b p f) $$ [H]
  · unfold slotPts; iexact H
  iintro H
  iapply (wp_do c)
  iapply (wp_putS c b p v f) $$ H
  iexact Hk

/-- A load of a slot of known entries. -/
theorem wp_valS (b : Memref sig .tc .vmem S2x128x1024 .f32) (p : Fin 2) (v : Vec F S1x128x1024 .f32) {β : Type}
    (k : Vec F S1x128x1024 .f32 → Act F β) (Q : β → sProp 𝕄) :
    slotVal b p c v ⊢ (slotVal b p c v -∗ WP c (k v) Q) -∗ WP c (getS b p >>= k) Q := by
  unfold slotVal
  iintro ⟨%f, H, %hv⟩ Hk
  iapply (wp_do c)
  iapply (wp_getS c b p f) $$ H
  iintro H
  rw [hv]
  iapply Hk
  iexists f
  isplitl [H]; · iexact H
  ipureintro; exact hv

theorem wp_getO (d : Fin 2) (s : ℕ) (f : OutC F) (Q : Vec F S128x1024 .f32 → sProp 𝕄) :
    outPts c f ⊢ (outPts c f -∗ Q (rdCh d c s f)) -∗ WP c (getO oM (dirOf d c) s) Q := by
  unfold outPts rdCh getO Prog.lift
  iintro H Hk
  iapply (wp_load 𝒱₀ (c : Thread nD τ) none Set.univ (m := oM) (r := (chRect d c s).toLoadRect) (Finset.subset_univ _)) $$ H
  iintro H
  rw [wp_ret]; imodintro
  iapply Hk; iexact H

theorem wp_putO (d : Fin 2) (s : ℕ) (v : Vec F S128x1024 .f32) (f : OutC F) (Q : PUnit → sProp 𝕄) :
    outPts c f ⊢ (outPts c (wrCh d c s f v) -∗ Q ⟨⟩) -∗ WP c (putO oM (dirOf d c) s v) Q := by
  unfold outPts wrCh putO Prog.lift
  iintro H Hk
  iapply (wp_store 𝒱₀ (c : Thread nD τ) none Set.univ (m := oM) (r := chRect d c s) (Mk := Finset.univ) (Finset.subset_univ _)) $$ H
  iintro H
  rw [wp_ret]; imodintro
  iapply Hk; iexact H

/-- A load of a chunk. -/
theorem wp_valO (d : Fin 2) (s : ℕ) (f : OutC F) {β : Type} (k : Vec F S128x1024 .f32 → Act F β) (Q : β → sProp 𝕄) :
    outPts c f ⊢ (outPts c f -∗ WP c (k (rdCh d c s f)) Q) -∗ WP c (getO oM (dirOf d c) s >>= k) Q := by
  iintro H Hk
  iapply (wp_do c)
  iapply (wp_getO c d s f) $$ H
  iexact Hk

/-- A store to a chunk, after the load that the body drops. -/
theorem wp_setO (d : Fin 2) (s : ℕ) (v : Vec F S128x1024 .f32) (f : OutC F) {β : Type} (k : Act F β) (Q : β → sProp 𝕄) :
    outPts c f ⊢ (outPts c (wrCh d c s f v) -∗ WP c k Q)
      -∗ WP c (do let _ ← getO oM (dirOf d c) s; putO oM (dirOf d c) s v; k) Q := by
  iintro H Hk
  iapply (wp_valO c d s f) $$ H
  iintro H
  iapply (wp_do c)
  iapply (wp_putO c d s v f) $$ H
  iexact Hk

/-! ## A step's work on the device's own buffers -/

/-- What came in before step `s`, where the step reads it. -/
def came? (d : Fin 2) (c : Dev nD) (s : ℕ) (r : Vec F S1x128x1024 .f32) : sProp 𝕄 :=
  if s = 0 then iprop(emp) else slotVal (rcvM d) (par (s + 1)) c r

theorem wp_fill (d : Fin 2) (s z : ℕ) (hz : z = 2 * (s - 31) + d.val) (A : ℕ → F .f32) (r : Vec F S1x128x1024 .f32) (f : OutC F)
    (Q : (ℕ → F .f32) → sProp 𝕄) :
    iprop(slotAny (sndM d) (par s) c ∗ came? d c s r ∗ outPts c f)
      ⊢ (iprop(slotVal (sndM d) (par s) c (fillV d c s r f) ∗ came? d c s r ∗ outPts c (fillO d c s r f)) -∗ Q (fillA d c s r f A))
        -∗ WP c (fill oM (dirOf d c) s z A) Q := by
  subst hz
  unfold came? fill
  by_cases h0 : s = 0
  · simp only [fillV, fillO, fillA, h0, if_true, Nat.zero_lt_succ, reduceIte]
    iintro ⟨Hs, He, Ho⟩ Hk
    iapply (wp_valO c d 0 f) $$ Ho
    iintro Ho
    iapply (wp_setS c (sndM d) (par 0)) $$ Hs
    iintro Hs
    iapply (wp_pure c)
    iapply Hk
    isplitl [Hs]; · iexact Hs
    isplitl [He] <;> iassumption
  rcases Nat.lt_trichotomy s 31 with h | h | h
  · simp only [fillV, fillO, fillA, if_neg h0, if_pos h, if_pos (show s < 32 by omega)]
    iintro ⟨Hs, He, Ho⟩ Hk
    iapply (wp_valS c (rcvM d) (par (s + 1)) r) $$ He
    iintro He
    iapply (wp_valO c d s f) $$ Ho
    iintro Ho
    iapply (wp_setS c (sndM d) (par s)) $$ Hs
    iintro Hs
    iapply (wp_pure c)
    iapply Hk
    isplitl [Hs]; · iexact Hs
    isplitl [He] <;> iassumption
  · subst h
    simp only [fillV, fillO, fillA, if_neg h0, if_neg (Nat.lt_irrefl 31), if_true, if_pos (show 31 < 32 by decide)]
    iintro ⟨Hs, He, Ho⟩ Hk
    iapply (wp_valS c (rcvM d) (par (31 + 1)) r) $$ He
    iintro He
    iapply (wp_valO c d 31 f) $$ Ho
    iintro Ho
    iapply (wp_setS c (sndM d) (par 31)) $$ Hs
    iintro Hs
    iapply (wp_setO c d 31) $$ Ho
    iintro Ho
    iapply (wp_pure c)
    iapply Hk
    isplitl [Hs]; · iexact Hs
    isplitl [He] <;> iassumption
  · simp only [fillV, fillO, fillA, if_neg h0, if_neg (show ¬ s < 31 by omega), if_neg (show ¬ s = 31 by omega), if_neg (show ¬ s < 32 by omega)]
    iintro ⟨Hs, He, Ho⟩ Hk
    iapply (wp_valS c (rcvM d) (par (s + 1)) r) $$ He
    iintro He
    iapply (wp_setS c (sndM d) (par s)) $$ Hs
    iintro Hs
    iapply (wp_setO c d s) $$ Ho
    iintro Ho
    iapply (wp_pure c)
    iapply Hk
    isplitl [Hs]; · iexact Hs
    isplitl [He] <;> iassumption

/-- The last chunk in, put away. -/
theorem wp_last (d : Fin 2) (z : ℕ) (hz : z = 2 * (62 - 31) + d.val) (A : ℕ → F .f32) (r : Vec F S1x128x1024 .f32) (f : OutC F)
    (Q : (ℕ → F .f32) → sProp 𝕄) :
    iprop(slotVal (rcvM d) (par (62 + 1)) c r ∗ outPts c f)
      ⊢ (iprop(slotVal (rcvM d) (par (62 + 1)) c r ∗ outPts c (fillO d c 62 r f)) -∗ Q (fillA d c 62 r f A))
        -∗ WP c (last oM (dirOf d c) z A) Q := by
  subst hz
  unfold last
  simp only [fillO, fillA, if_neg (show ¬ 62 < 31 by decide), if_neg (show ¬ 62 = 31 by decide)]
  iintro ⟨He, Ho⟩ Hk
  iapply (wp_valS c (rcvM d) (par (62 + 1)) r) $$ He
  iintro He
  iapply (wp_setO c d 62) $$ Ho
  iintro Ho
  iapply (wp_pure c)
  iapply Hk
  isplitl [He] <;> iassumption

/-! ## The products and the rounding -/

/-- The operand blocks of device `c`, in its buffers. -/
def xPts (X : (cc0_stg0_0 : Ref sig .tc).ty.Contents (Elt F)) : sProp 𝕄 := ((c : Thread nD τ).loc cc0_stg0_0) ↦{fullShare} X
def wPts (W : (cc0_stg1_0 : Ref sig .tc).ty.Contents (Elt F)) : sProp 𝕄 := ((c : Thread nD τ).loc cc0_stg1_0) ↦{fullShare} W

theorem wp_getY (k : Fin 32) (f : OutC F) (Q : Vec F S128x2048 .f32 → sProp 𝕄) :
    outPts c f ⊢ (outPts c f -∗ Q (rdRow k f)) -∗ WP c (getY oM k) Q := by
  unfold outPts rdRow getY Prog.lift
  iintro H Hk
  iapply (wp_load 𝒱₀ (c : Thread nD τ) none Set.univ (m := oM) (r := (rowRect k).toLoadRect) (Finset.subset_univ _)) $$ H
  iintro H
  rw [wp_ret]; imodintro
  iapply Hk; iexact H

theorem wp_setY (k : Fin 32) (v : Vec F S128x2048 .f32) (f : OutC F) (Q : PUnit → sProp 𝕄) :
    outPts c f ⊢ (outPts c (wrRow k f v) -∗ Q ⟨⟩) -∗ WP c (do let _ ← getY oM k; putY oM k v) Q := by
  iintro H Hk
  iapply (wp_do c)
  iapply (wp_getY c k f) $$ H
  unfold outPts wrRow putY Prog.lift
  iintro H
  iapply (wp_store 𝒱₀ (c : Thread nD τ) none Set.univ (m := oM) (r := rowRect k) (Mk := Finset.univ) (Finset.subset_univ _)) $$ H
  iintro H
  rw [wp_ret]; imodintro
  iapply Hk; iexact H

/-- A loop over the row chunks, each step setting its chunk. -/
theorem wp_each (st : Fin 32 → Act F PUnit) (R : sProp 𝕄) (v : Fin 32 → Vec F S128x2048 .f32 → Vec F S128x2048 .f32)
    (hst : ∀ (k : Fin 32) (f : OutC F) (Q : PUnit → sProp 𝕄),
      iprop(R ∗ outPts c f) ⊢ (iprop(R ∗ outPts c (wrRow k f (v k (rdRow k f)))) -∗ Q ⟨⟩) -∗ WP c (st k) Q)
    (g : Fin 32 → Vec F S128x2048 .f32) (n k : ℕ) (hn : k + n = 32) (Q : PUnit → sProp 𝕄) :
    iprop(R ∗ outPts c (asm fun j => if j.val < k then v j (g j) else g j))
      ⊢ (iprop(R ∗ outPts c (asm fun j => v j (g j))) -∗ Q ⟨⟩) -∗ WP c (each st n k) Q := by
  induction n generalizing k with
  | zero =>
    obtain rfl : k = 32 := by omega
    rw [show (fun j : Fin 32 => if j.val < 32 then v j (g j) else g j) = fun j => v j (g j) from funext fun j => if_pos j.isLt]
    iintro H Hk
    iapply (wp_pure c)
    iapply Hk; iexact H
  | succ n ih =>
    have hk : k % 32 = k := Nat.mod_eq_of_lt (by omega)
    have hnew : Function.update (fun j : Fin 32 => if j.val < k then v j (g j) else g j) ⟨k % 32, Nat.mod_lt _ (by decide)⟩
          (v ⟨k % 32, Nat.mod_lt _ (by decide)⟩ (g ⟨k % 32, Nat.mod_lt _ (by decide)⟩))
        = fun j : Fin 32 => if j.val < k + 1 then v j (g j) else g j := by
      funext j
      by_cases hj : j = ⟨k % 32, Nat.mod_lt _ (by decide)⟩
      · subst hj; rw [Function.update_self, if_pos (by show k % 32 < k + 1; omega)]
      · rw [Function.update_of_ne hj]
        have : j.val ≠ k := fun h => hj (Fin.ext (by show j.val = k % 32; omega))
        by_cases hlt : j.val < k
        · rw [if_pos hlt, if_pos (by omega)]
        · rw [if_neg hlt, if_neg (by omega)]
    iintro H Hk
    iapply (wp_do c)
    iapply (hst ⟨k % 32, Nat.mod_lt _ (by decide)⟩) $$ H
    rw [rdRow_asm, wrRow_asm, if_neg (show ¬ k % 32 < k by omega), hnew]
    iintro H
    iapply (ih (k + 1) (by omega)) $$ H
    iexact Hk

theorem wp_dots (X : (cc0_stg0_0 : Ref sig .tc).ty.Contents (Elt F)) (W : (cc0_stg1_0 : Ref sig .tc).ty.Contents (Elt F)) (f : OutC F)
    (Q : PUnit → sProp 𝕄) :
    iprop((xPts c X ∗ wPts c W) ∗ outPts c f)
      ⊢ (iprop((xPts c X ∗ wPts c W) ∗ outPts c (prodO X W)) -∗ Q ⟨⟩) -∗ WP c (each (dotStep xM wM oM) 32 0) Q := by
  have h := wp_each c (dotStep xM wM oM) iprop(xPts c X ∗ wPts c W) (fun k _ => dotRow X W k)
    (fun k f Q => by
      unfold dotStep xPts wPts
      iintro ⟨⟨Hx, Hw⟩, Ho⟩ Hk
      iapply (wp_do c)
      unfold Prog.lift
      iapply (wp_load 𝒱₀ (c : Thread nD τ) none Set.univ (m := xM) (Finset.subset_univ _)) $$ Hx
      iintro Hx
      rw [wp_ret]; imodintro
      iapply (wp_do c)
      iapply (wp_load 𝒱₀ (c : Thread nD τ) none Set.univ (m := wM) (Finset.subset_univ _)) $$ Hw
      iintro Hw
      rw [wp_ret]; imodintro
      iapply (wp_setY c k) $$ Ho
      iintro Ho
      iapply Hk
      isplitl [Hx Hw]
      · isplitl [Hx] <;> iassumption
      · iexact Ho)
    (fun k => rdRow k f) 32 0 rfl Q
  simp only [Nat.not_lt_zero, if_false, asm_rdRow] at h
  exact h

theorem wp_qnts (sc iv : F .f32) (f : OutC F) (Q : PUnit → sProp 𝕄) :
    outPts c f ⊢ (outPts c (asm fun k => qntV sc iv (rdRow k f)) -∗ Q ⟨⟩) -∗ WP c (each (qntStep oM sc iv) 32 0) Q := by
  have h := wp_each c (qntStep oM sc iv) iprop(emp) (fun _ v => qntV sc iv v)
    (fun k f Q => by
      unfold qntStep
      iintro ⟨He, Ho⟩ Hk
      iapply (wp_do c)
      iapply (wp_getY c k f) $$ Ho
      iintro Ho
      iapply (wp_setY c k) $$ Ho
      iintro Ho
      iapply Hk
      isplitl [He] <;> iassumption)
    (fun k => rdRow k f) 32 0 rfl Q
  simp only [Nat.not_lt_zero, if_false, asm_rdRow] at h
  iintro Ho Hk
  iapply h $$ [Ho]
  · isplitr; · iempintro
    iexact Ho
  iintro ⟨-, Ho⟩
  iapply Hk; iexact Ho

end RingQ
-- ==== Proof.Step.lean ====
module

public import proofs.«01_k».proof.Proof.Mem

@[expose] public section

/-!
# The body's signals, waits and transfers
-/

noncomputable section

namespace RingQ

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.Kernel Cert.Kernel.Gen

variable {F : FTy → Type} [FloatOps F]

local notation "𝕄" => MT nD τ sig ℕ (Elt F) ℕ UU ℕ

theorem par_two (s : ℕ) : par (s + 1 + 1) = par s := Fin.ext (by show (s + 1 + 1) % 2 = s % 2; omega)

/-! ## What every device knows -/

variable (V : Sent F) (K : Dev nD × Kind → ℕ) (K' : Key → ℕ)

/-- The cells' and the slots' invariants, the cells' first rounds, the levels. -/
def ctx : sProp 𝕄 :=
  iprop((bigSep Finset.univ fun x : Dev nD × Kind => cellInv ER (Rd V) (K x) (cell x.1 x.2))
    ∗ (bigSep Finset.univ fun k : Key => slotInv EK (K' k) k (slotAny (rcvM k.2.1) k.2.2 k.1))
    ∗ (bigSep Finset.univ fun x : Dev nD × Kind => reached ER (cell x.1 x.2) 0)
    ∗ levAts L lv)

instance ctx_persistent : BI.Persistent (ctx V K K') := by unfold ctx; infer_instance

theorem ctx_cell (c : Dev nD) (k : Kind) : ctx V K K' ⊢ cellInv ER (Rd V) (K (c, k)) (cell c k) := by
  have h : (bigSep Finset.univ fun x : Dev nD × Kind => cellInv ER (Rd V) (K x) (cell x.1 x.2)) ⊢ cellInv ER (Rd V) (K (c, k)) (cell c k) :=
    bigSep_elim (Finset.mem_univ (c, k))
  unfold ctx; iintro ⟨H, -⟩
  iapply h; iexact H
theorem ctx_slot (k : Key) : ctx V K K' ⊢ slotInv EK (K' k) k (slotAny (rcvM k.2.1) k.2.2 k.1) := by
  have h : (bigSep Finset.univ fun k : Key => slotInv (Val := Elt F) EK (K' k) k (slotAny (rcvM k.2.1) k.2.2 k.1))
      ⊢ slotInv EK (K' k) k (slotAny (rcvM k.2.1) k.2.2 k.1) := bigSep_elim (Finset.mem_univ k)
  unfold ctx; iintro ⟨-, H, -⟩
  iapply h; iexact H
theorem ctx_reached (c : Dev nD) (k : Kind) : ctx V K K' ⊢ reached ER (cell c k) 0 := by
  have h : (bigSep Finset.univ fun x : Dev nD × Kind => (reached ER (cell x.1 x.2) 0 : sProp 𝕄)) ⊢ reached ER (cell c k) 0 :=
    bigSep_elim (Finset.mem_univ (c, k))
  unfold ctx; iintro ⟨-, -, H, -⟩
  iapply h; iexact H
theorem ctx_may {b : ℕ} {O : Owe} (h : Above b O) (c : Dev nD) (k : Kind) (i : ℕ) (hi : i < 64) (hb : lvK k i ≤ b) :
    ctx V K K' ⊢ MayWait (c : Thread nD τ) (semOf k) i O := by
  have hb' : lv (cell c k) i ≤ b := by rw [lv_cell]; exact hb
  have hm := mayOwe_above (F := F) h c (semOf k) i hi hb'
  unfold ctx; iintro ⟨-, -, -, H⟩
  iapply hm; iexact H

variable (c : Dev nD)

/-- What device `c` owes. -/
def owe (O : Owe) : sProp 𝕄 := iprop(∃ W, owes (c : Thread nD τ) O W)

/-! ## One signal, one wait -/

theorem wp_sig (dst : Dev nD) (k : Kind) (sem : Sem sig) (hk : semOf k = .reg sem) (ha : amountK k = 1) (r j i : ℕ) (hj : j ∈ dutiesK k r)
    (O : Owe) (Q : PUnit → sProp 𝕄) :
    iprop(ctx V K K' ∗ owe c (O + tallyAt (cell dst k) i 1) ∗ dutyTok ER (cell dst k) r j ∗ payK V dst k r j ∗ reached ER (cell dst k) r)
      ⊢ (owe c O -∗ Q ⟨⟩) -∗ WP c (semSignalWord dst sem 1#32) Q := by
  have e : cell dst k = ((dst : Thread nD τ), SemLoc.reg sem) := by rw [cell, hk]
  have hI := ctx_cell V K K' dst k
  have hd : j ∈ (Rd V).duties (cell dst k) r := by rw [duties_cell]; exact hj
  have hk' : (Rd V).amount (cell dst k) r j = 1 := by rw [amount_cell, ha]
  rw [← payload_cell V dst k r j]
  rw [e] at hI hd hk' ⊢
  unfold owe
  iintro ⟨#Hc, ⟨%W, HO⟩, Ht, Hp, Hr⟩ Hk
  iapply (Rounds.wp_signal 𝒱₀ ER (Rd V) (c : Thread nD τ) none (dst := (dst : Thread nD τ)) (κ := K (dst, k)) (d := j) (k' := 1) (sem := sem)
      (k := .ret) hd hk' i O rfl) $$ [HO Ht Hp Hr]
  · isplitr; · iapply hI; iexact Hc
    isplitl [HO]; · iexact HO
    isplitl [Ht]; · iexact Ht
    isplitl [Hp] <;> iassumption
  iintro HO
  rw [wp_ret]; imodintro
  iapply Hk
  iexists W; iexact HO

theorem wp_rest {w : TpuEff nD τ sig (Elt F) Λ₀ .tc PUnit} {n : ℕ} (k : Kind)
    (hw : ∀ J : PUnit → sProp 𝕄, wpE (defs₀ (F := F)) 𝒱₀ (c : Thread nD τ) none Set.univ w J = waitSpec (c : Thread nD τ) Set.univ (semOf k) n J)
    (i : ℕ) (hi : i < 64) {O : Owe} {b R m : ℕ} {T : Finset ℕ} (hO : Above b O) (hb : lvK k i ≤ b) (hm : m + n = (dutiesK k R).card * amountK k)
    (Q : PUnit → sProp 𝕄) :
    iprop(ctx V K K' ∗ cred (tallyAt (cell c k) i n) ∗ owe c O ∗ atPos ER (cell c k) R T m)
      ⊢ (iprop(owe c O ∗ atPos ER (cell c k) (R + 1) ∅ 0 ∗ reached ER (cell c k) (R + 1) ∗ bigSep (dutiesK k R \ T) (fun j => payK V c k R j)) -∗ Q ⟨⟩)
        -∗ WP c (.op w .ret) Q := by
  have hlev := ctx_may V K K' hO c k i hi hb
  unfold owe
  iintro ⟨#Hc, Hcr, ⟨%W, HO⟩, Hat⟩ Hk
  iapply (Rounds.wp_wait_rest_token 𝒱₀ ER (Rd V) (c : Thread nD τ) none (κ := K (c, k)) hw (Set.mem_univ _) i (O := O) (W := W) (R := R) (m := m) (T := T)
      (by rw [hm]; exact (expect_cell V c k R).symm)) $$ [Hcr HO Hat]
  · isplitr; · iapply (ctx_cell V K K' c k); iexact Hc
    isplitl [Hcr]; · iexact Hcr
    isplitl [HO]; · iexact HO
    isplitr
    · iapply hlev; iexact Hc
    iexact Hat
  rw [duties_cell]
  simp only [payload_cell]
  iintro ⟨HO, Hat, Hr, Hp⟩
  rw [wp_ret]; imodintro
  iapply Hk
  isplitl [HO]; · iexists _; iexact HO
  isplitl [Hat]; · iexact Hat
  isplitl [Hr] <;> iassumption

/-- A wait for one of several duties. -/
theorem wp_one {w : TpuEff nD τ sig (Elt F) Λ₀ .tc PUnit} (k : Kind)
    (hw : ∀ J : PUnit → sProp 𝕄, wpE (defs₀ (F := F)) 𝒱₀ (c : Thread nD τ) none Set.univ w J = waitSpec (c : Thread nD τ) Set.univ (semOf k) 1 J)
    (i : ℕ) (hi : i < 64) {O : Owe} {b R m : ℕ} {T : Finset ℕ} (hO : Above b O) (hb : lvK k i ≤ b) (Q : PUnit → sProp 𝕄) :
    iprop(ctx V K K' ∗ cred (tallyAt (cell c k) i 1) ∗ owe c O ∗ atPos ER (cell c k) R T m)
      ⊢ (iprop(∀ S, (⌜T ⊆ S ∧ S ⊆ dutiesK k R ∧ m + 1 + (dutiesK k R \ S).card ≤ (dutiesK k R).card * amountK k⌝
          ∗ owe c O ∗ atPos ER (cell c k) R S (m + 1) ∗ bigSep (S \ T) (fun j => payK V c k R j)) -∗ Q ⟨⟩))
        -∗ WP c (.op w .ret) Q := by
  have hlev := ctx_may V K K' hO c k i hi hb
  unfold owe
  iintro ⟨#Hc, Hcr, ⟨%W, HO⟩, Hat⟩ Hk
  iapply (Rounds.wp_wait 𝒱₀ ER (Rd V) (c : Thread nD τ) none (κ := K (c, k)) hw (Set.mem_univ _) (cr := Finsupp.single i 1) {(semOf k, i)} (O := O) (W := W) (R := R) (m := m) (T := T)
      (by rw [Util.total_single]) (image_single_subset (semOf k) i 1)) $$ [Hcr HO Hat]
  · isplitr; · iapply (ctx_cell V K K' c k); iexact Hc
    isplitl [Hcr]; · iexact Hcr
    isplitl [HO]; · iexact HO
    isplitr
    · iapply hlev; iexact Hc
    iexact Hat
  rw [duties_cell, expect_cell]
  simp only [payload_cell]
  iintro %S ⟨%hS, HO, Hat, Hp⟩
  rw [wp_ret]; imodintro
  iapply Hk $$ %S
  isplitr; · ipureintro; exact hS
  isplitl [HO]; · iexists _; iexact HO
  isplitl [Hat] <;> iassumption

end RingQ
-- ==== Proof.Link.lean ====
module

public import proofs.«01_k».proof.Proof.Step

@[expose] public section

/-!
# One step's links

The credit, the transfer and its two waits, in one direction of one step.
-/

noncomputable section

namespace RingQ

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.Kernel Cert.Kernel.Gen

variable {F : FTy → Type} [FloatOps F]

local notation "𝕄" => MT nD τ sig ℕ (Elt F) ℕ UU ℕ

variable (V : Sent F) (K : Dev nD × Kind → ℕ) (K' : Key → ℕ) (c : Dev nD)

/-! ## Slots released -/

theorem slotAny_excl (b : Memref sig .tc .vmem S2x128x1024 .f32) (p : Fin 2) : iprop(slotAny b p c ∗ slotAny b p c) ⊢ (False : sProp 𝕄) :=
  slot_slot_false ⟨(slotM b p).view.emb (fun a => ⟨0, by match a with | 0 => decide | 1 => decide⟩), View.emb_mem_set _ _⟩

/-- The slot that step `t` is sent to, released for it. -/
theorem release (d : Fin 2) (t : ℕ) :
    iprop(ctx V K K' ∗ readerAt EK (c, d, par t) (t / 2) ∗ slotAny (rcvM d) (par t) c ∗ reached ER (cell c (.rcv d (par t))) (t / 2))
      ⊢ |={Set.univ}=> iprop(readerAt EK (c, d, par t) (t / 2 + 1) ∗ free d c t) := by
  have h := slot_release (E := EK (F := F)) (k := (c, d, par t)) (S := slotAny (rcvM d) (par t) c) (ι := K' (c, d, par t)) (Es := Set.univ)
    (Set.mem_univ _) (slotAny_excl c (rcvM d) (par t)) (t / 2)
  have hs := ctx_slot V K K' (c, d, par t)
  unfold free
  iintro ⟨#Hc, Hr, Hs, #Hv⟩
  imod h $$ [Hr Hs] with ⟨Hr, #Hw⟩
  · isplitr; · iapply hs; iexact Hc
    isplitl [Hr] <;> iassumption
  imodintro
  isplitl [Hr]; · iexact Hr
  isplitr; · iexact Hw
  iexact Hv

/-! ## Credits -/

def giveTok (d : Fin 2) (s : ℕ) : sProp 𝕄 :=
  if 1 ≤ s ∧ s ≤ 60 then dutyTok ER (cell (bwd d c) (.crd d)) 0 (s - 1) else iprop(emp)

theorem wp_give (d : Fin 2) (s : ℕ) (O : Owe) (Q : PUnit → sProp 𝕄) :
    iprop(ctx V K K' ∗ owe c (O + oweC d c s) ∗ giveTok c d s ∗ (if 1 ≤ s ∧ s ≤ 60 then iprop(free d c s ∗ free d c (s + 1)) else iprop(emp)))
      ⊢ (owe c O -∗ Q ⟨⟩) -∗ WP c (give (dirOf d c) s) Q := by
  unfold give giveTok oweC
  split
  · next h =>
    have e1 : s - 1 + 1 = s := by omega
    have e2 : s - 1 + 2 = s + 1 := by omega
    have hp : iprop(free d c s ∗ free d c (s + 1)) ⊢ payK V (bwd d c) (.crd d) 0 (s - 1) := by
      unfold payK; dsimp only; rw [fwd_bwd, e1, e2]
    iintro ⟨#Hc, HO, Ht, Hf⟩ Hk
    iapply (wp_sig V K K' c (bwd d c) (.crd d) (crS d) rfl rfl 0 (s - 1) s (Finset.mem_range.mpr (by omega)) O Q) $$ [HO Ht Hf]
    · isplitr; · iexact Hc
      isplitl [HO]; · iexact HO
      isplitl [Ht]; · iexact Ht
      isplitl [Hf]; · iapply hp; iexact Hf
      iapply (ctx_reached V K K' (bwd d c) (.crd d)); iexact Hc
    iexact Hk
  · iintro ⟨-, HO, -, -⟩ Hk
    rw [add_zero]
    iapply (wp_pure c)
    iapply Hk; iexact HO

/-- The credit cell before step `s`. -/
def crdAt (d : Fin 2) (s : ℕ) : sProp 𝕄 :=
  if s ≤ 61 then iprop(∃ T, ⌜T ⊆ Finset.range 60⌝ ∗ atPos ER (cell c (.crd d)) 0 T (s - 2) ∗ bigSep T (fun j => payK V c (.crd d) 0 j))
  else atPos ER (cell c (.crd d)) 1 ∅ 0

def takeTok (d : Fin 2) (s : ℕ) : sProp 𝕄 := if 2 ≤ s then cred (tallyAt (cell c (.crd d)) (s - 1) 1) else iprop(emp)

/-- Enough credits in: the slot of step `s` is free. -/
theorem free_of_credits (d : Fin 2) (s : ℕ) (h2 : 2 ≤ s) (S : Finset ℕ) (hS : S ⊆ Finset.range 60)
    (hc : s - 2 + 1 + (Finset.range 60 \ S).card ≤ 60) :
    bigSep S (fun j => payK V c (.crd d) 0 j) ⊢ free d (fwd d c) s := by
  have hcard : s - 1 ≤ S.card := by
    have := Finset.card_sdiff_add_card_eq_card hS
    rw [Finset.card_range] at this; omega
  obtain ⟨j, hj, hle⟩ : ∃ j ∈ S, s - 2 ≤ j := by
    by_contra hn
    have hsub : S ⊆ Finset.range (s - 2) := fun j hj => Finset.mem_range.mpr (by
      by_contra hlt; exact hn ⟨j, hj, by omega⟩)
    have := Finset.card_le_card hsub
    rw [Finset.card_range] at this; omega
  have h : bigSep S (fun j => payK V c (.crd d) 0 j) ⊢ payK V c (.crd d) 0 j := bigSep_elim hj
  refine h.trans ?_
  unfold payK; dsimp only
  by_cases hp : par s = par (j + 2)
  · iintro ⟨-, H⟩
    iapply (free_mono d (fwd d c) (show s ≤ j + 2 by omega) hp); iexact H
  · have hp' : par s = par (j + 1) := by
      have hne : s % 2 ≠ (j + 2) % 2 := fun h => hp (Fin.ext h)
      exact Fin.ext (show s % 2 = (j + 1) % 2 by omega)
    have : s ≠ j + 2 := fun h => hp (by rw [h])
    iintro ⟨H, -⟩
    iapply (free_mono d (fwd d c) (show s ≤ j + 1 by omega) hp'); iexact H

theorem wp_take (d : Fin 2) (s : ℕ) (hs : s ≤ 61) (O : Owe) (hO : Above (2 * s + 1) O) (Q : PUnit → sProp 𝕄) :
    iprop(ctx V K K' ∗ owe c O ∗ takeTok c d s ∗ crdAt V c d s)
      ⊢ (iprop(owe c O ∗ crdAt V c d (s + 1) ∗ (if 2 ≤ s then free d (fwd d c) s else iprop(emp))) -∗ Q ⟨⟩) -∗ WP c (take (dirOf d c) s) Q := by
  unfold take takeTok
  split
  · next h2 =>
    have hl : lvK (.crd d) (s - 1) ≤ 2 * s + 1 := by show 2 * (s - 1) + 3 ≤ 2 * s + 1; omega
    unfold crdAt semWaitWord
    rw [if_pos hs]
    rcases Nat.lt_or_ge s 61 with h | h
    · rw [if_pos (show s + 1 ≤ 61 by omega)]
      iintro ⟨#Hc, HO, Ht, ⟨%T, %hT, Hat, HT⟩⟩ Hk
      iapply (wp_one V K K' c (.crd d) (wpE_semWait_eq 𝒱₀ (c : Thread nD τ) none Set.univ) (s - 1) (by omega) hO hl (R := 0)) $$ [Ht HO Hat]
      · isplitr; · iexact Hc
        isplitl [Ht]; · iexact Ht
        isplitl [HO]; · iexact HO
        iexact Hat
      iintro %S ⟨%hS, HO, Hat, Hp⟩
      have hS2 : S ⊆ Finset.range 60 := hS.2.1
      have hfree := free_of_credits V c d s h2 S hS2 (by
        have h := hS.2.2
        rw [show (dutiesK (.crd d) 0) = Finset.range 60 from rfl, Finset.card_range, show amountK (.crd d) = 1 from rfl] at h
        exact h)
      have hj : iprop(bigSep T (fun j => payK V c (.crd d) 0 j) ∗ bigSep (S \ T) (fun j => payK V c (.crd d) 0 j)) ⊢ bigSep S (fun j => payK V c (.crd d) 0 j) := by
        exact Entails.of_eq (BI.bigSep_sdiff_split hS.1).symm
      ihave HS := hj $$ [HT Hp]
      · isplitl [HT] <;> iassumption
      ihave HS2 := (persistent_entails_right hfree) $$ HS
      icases HS2 with ⟨#Hf, HS⟩
      iapply Hk
      isplitl [HO]; · iexact HO
      isplitl [Hat HS]
      · iexists S
        isplitr; · ipureintro; exact hS2
        rw [show s + 1 - 2 = s - 2 + 1 by omega]
        isplitl [Hat] <;> iassumption
      iexact Hf
    · have e61 : s = 61 := by omega
      subst e61
      rw [if_neg (show ¬ (61 + 1 ≤ 61) by decide)]
      have hfree := free_of_credits V c d 61 h2 (Finset.range 60) (Finset.Subset.refl _) (by decide)
      iintro ⟨#Hc, HO, Ht, ⟨%T, %hT, Hat, HT⟩⟩ Hk
      have hj : iprop(bigSep T (fun j => payK V c (.crd d) 0 j) ∗ bigSep (Finset.range 60 \ T) (fun j => payK V c (.crd d) 0 j)) ⊢ bigSep (Finset.range 60) (fun j => payK V c (.crd d) 0 j) := by
        exact Entails.of_eq (BI.bigSep_sdiff_split hT).symm
      iapply (wp_rest V K K' c (.crd d) (wpE_semWait_eq 𝒱₀ (c : Thread nD τ) none Set.univ) (61 - 1) (by decide) hO hl (R := 0) (m := 59) rfl) $$ [Ht HO Hat]
      · isplitr; · iexact Hc
        isplitl [Ht]; · iexact Ht
        isplitl [HO]; · iexact HO
        iexact Hat
      iintro ⟨HO, Hat, -, Hp⟩
      iapply Hk
      isplitl [HO]; · iexact HO
      isplitl [Hat]; · iexact Hat
      iapply hfree
      iapply hj
      isplitl [HT]; · iexact HT
      iexact Hp
  · next h2 =>
    unfold crdAt
    rw [if_pos hs, if_pos (show s + 1 ≤ 61 by omega), show s + 1 - 2 = s - 2 by omega]
    iintro ⟨-, HO, -, Ha⟩ Hk
    iapply (wp_pure c)
    iapply Hk
    isplitl [HO]; · iexact HO
    isplitl [Ha]; · iexact Ha
    iempintro

/-! ## Transfers -/

theorem credit_snd : ∀ d p : Fin 2, (slotM (sndM d) p).view.dmaCredit = N := by
  intro d p; fin_cases d <;> fin_cases p <;> rfl
theorem credit_rcv : ∀ d p : Fin 2, (slotM (rcvM d) p).view.dmaCredit = N := by
  intro d p; fin_cases d <;> fin_cases p <;> rfl

theorem half_par (s : ℕ) : 2 * (s / 2) + (par s).val = s := by show 2 * (s / 2) + s % 2 = s; omega

/-- What the transfer of step `s` needs beyond the slots. -/
def shipTok (d : Fin 2) (s : ℕ) : sProp 𝕄 :=
  iprop(dutyTok ER (cell c (.snd d (par s))) (s / 2) 0 ∗ dutyTok ER (cell (fwd d c) (.rcv d (par s))) (s / 2) 0
    ∗ writeTok EK (fwd d c, d, par s) (s / 2 + 1))

theorem wp_ship (d : Fin 2) (s : ℕ) (hs : s < 62) (O : Owe) (Q : PUnit → sProp 𝕄) :
    iprop(ctx V K K' ∗ owe c (O + oweR d c s) ∗ shipTok c d s ∗ slotVal (sndM d) (par s) c (V d c s) ∗ free d (fwd d c) s
        ∗ reached ER (cell c (.snd d (par s))) (s / 2) ∗ reached ER (cell c .bar) 1)
      ⊢ (iprop(owe c O ∗ cred (tallyAt (cell c (.snd d (par s))) 0 N)) -∗ Q ⟨⟩) -∗ WP c (ship (dirOf d c) s) Q := by
  have hr : s / 2 < 31 := by omega
  have hd1 : 0 ∈ (Rd V).duties (cell c (.snd d (par s))) (s / 2) := by
    rw [duties_cell]; unfold dutiesK; dsimp only; rw [if_pos hr]; exact Finset.mem_singleton_self _
  have hd2 : 0 ∈ (Rd V).duties (cell (fwd d c) (.rcv d (par s))) (s / 2) := by
    rw [duties_cell]; unfold dutiesK; dsimp only; rw [if_pos hr]; exact Finset.mem_singleton_self _
  have htake := slot_take (E := EK (F := F)) (k := (fwd d c, d, par s)) (S := slotAny (rcvM d) (par s) (fwd d c)) (ι := K' (fwd d c, d, par s))
    (Es := Set.univ) (Set.mem_univ _) (s / 2 + 1)
  have hslot := ctx_slot V K K' (fwd d c, d, par s)
  have hI1 := ctx_cell V K K' c (.snd d (par s))
  have hI2 := ctx_cell V K K' (fwd d c) (.rcv d (par s))
  have hp1 (fs) : slotPts (sndM d) (par s) c fs ⊢ (Rd V).payload (cell c (.snd d (par s))) (s / 2) 0 := by
    rw [payload_cell]
    unfold payK slotPts slotAny slot; dsimp only
    iintro H; iexists fs; iexact H
  have hp2 (fs fd) (hfs : rdS (sndM d) (par s) c fs = V d c s) :
      iprop(slotPts (rcvM d) (par s) (fwd d c) ((slotM (rcvM d) (par s)).view.write (Elt F) fd ((slotM (sndM d) (par s)).view.read (Elt F) fs) Finset.univ)
        ∗ reached ER (cell c .bar) 1) ⊢ (Rd V).payload (cell (fwd d c) (.rcv d (par s))) (s / 2) 0 := by
    rw [payload_cell]
    unfold payK gotten slotVal; dsimp only
    rw [bwd_fwd, half_par]
    iintro ⟨H, Hb⟩
    isplitl [H]
    · iexists _
      isplitl [H]; · iexact H
      ipureintro
      rw [rdS_landed]; exact hfs
    iexact Hb
  unfold slotPts at hp1 hp2
  unfold owe shipTok slotVal free ship Prog.lift
  iintro ⟨#Hc, ⟨%W, HO⟩, ⟨Ht1, Ht2, Hw⟩, ⟨%fs, Hs, %hfs⟩, ⟨#Hrel, #Hr2⟩, #Hr1, #Hb⟩ Hk
  imod htake $$ [Hw] with HS
  · isplitr; · iapply hslot; iexact Hc
    isplitr; · iexact Hrel
    iexact Hw
  unfold slotAny slot slotPts
  icases HS with ⟨%fd, HS⟩
  iapply (Rounds.wp_send_pointsTo_with 𝒱₀ ER (Rd V) (c : Thread nD τ) none (c' := (fwd d c : Thread nD τ))
    (src := slotM (sndM d) (par s)) (dst := slotM (rcvM d) (par s)) (sS := .dma (dsem (ssA d) (par s))) (sem := .dma (dsem (rsA d) (par s)))
    (k := .ret) (q := fullShare) (fs := fs) (F := reached ER (cell c .bar) 1)
    (κ₁ := K (c, .snd d (par s))) (κ₂ := K (fwd d c, .rcv d (par s))) (r₁ := s / 2) (r₂ := s / 2) (d₁ := 0) (d₂ := 0) (fd := fd) (W := W)
    hd1 hd2 s 0 N rfl (amount_cell V c (.snd d (par s)) _ _) (amount_cell V (fwd d c) (.rcv d (par s)) _ _) O rfl (hp1 fs) (hp2 fs fd hfs)) $$ [Hs HS HO Ht1 Ht2]
  · isplitr; · iapply hI1; iexact Hc
    isplitr; · iapply hI2; iexact Hc
    isplitl [Hs]; · iexact Hs
    isplitl [HS]
    · isplitl [HS]; · iexact HS
      iexact Hb
    isplitl [HO]; · iexact HO
    isplitl [Ht1]; · iexact Ht1
    isplitr; · iexact Hr1
    isplitl [Ht2]; · iexact Ht2
    iexact Hr2
  iintro ⟨Hcr, HO⟩
  rw [wp_ret]; imodintro
  iapply Hk
  isplitl [HO]; · iexists W; iexact HO
  iexact Hcr

theorem wp_sent (d : Fin 2) (s : ℕ) (hs : s < 62) (O : Owe) (hO : Above 0 O) (Q : PUnit → sProp 𝕄) :
    iprop(ctx V K K' ∗ owe c O ∗ cred (tallyAt (cell c (.snd d (par s))) 0 N) ∗ atPos ER (cell c (.snd d (par s))) (s / 2) ∅ 0)
      ⊢ (iprop(owe c O ∗ atPos ER (cell c (.snd d (par s))) (s / 2 + 1) ∅ 0 ∗ reached ER (cell c (.snd d (par s))) (s / 2 + 1) ∗ slotAny (sndM d) (par s) c) -∗ Q ⟨⟩)
        -∗ WP c (sent (dirOf d c) s) Q := by
  have hr : s / 2 < 31 := by omega
  have hw (J : PUnit → sProp 𝕄) : wpE (defs₀ (F := F)) 𝒱₀ (c : Thread nD τ) none Set.univ
      (.waitDma2 (dsem (ssA d) (par s)) (slotM (rcvM d) (par s)) (slotM (sndM d) (par s)) ((View.wordExact_bits rfl).reshape _ _) ((View.wordExact_bits rfl).reshape _ _)) J
        = waitSpec (c : Thread nD τ) Set.univ (semOf (.snd d (par s))) N J := by
    rw [wpE_waitDma2_eq, credit_snd]; rfl
  have hd : dutiesK (.snd d (par s)) (s / 2) \ ∅ = {0} := by
    rw [Finset.sdiff_empty]; unfold dutiesK; dsimp only; rw [if_pos hr]
  have hm : 0 + N = (dutiesK (.snd d (par s)) (s / 2)).card * amountK (.snd d (par s)) := by
    unfold dutiesK amountK; dsimp only; rw [if_pos hr, Finset.card_singleton, Nat.zero_add, Nat.one_mul]
  have hp : payK V c (.snd d (par s)) (s / 2) 0 ⊢ slotAny (sndM d) (par s) c := by
    unfold payK; dsimp only; exact Entails.rfl
  iintro ⟨#Hc, HO, Hcr, Hat⟩ Hk
  unfold sent Prog.lift
  iapply (wp_rest V K K' c (n := N) (.snd d (par s)) hw 0 (by decide) hO (Nat.le_refl 0) (R := s / 2) (m := 0) (T := ∅) hm) $$ [HO Hcr Hat]
  · isplitr; · iexact Hc
    isplitl [Hcr]; · iexact Hcr
    isplitl [HO] <;> iassumption
  rw [hd, bigSep_singleton]
  iintro ⟨HO, Hat, Hr, Hp⟩
  iapply Hk
  isplitl [HO]; · iexact HO
  isplitl [Hat]; · iexact Hat
  isplitl [Hr]; · iexact Hr
  iapply hp; iexact Hp

theorem wp_came (d : Fin 2) (s : ℕ) (hs : s < 62) (O : Owe) (hO : Above (2 * s + 2) O) (Q : PUnit → sProp 𝕄) :
    iprop(ctx V K K' ∗ owe c O ∗ cred (tallyAt (cell c (.rcv d (par s))) s N) ∗ atPos ER (cell c (.rcv d (par s))) (s / 2) ∅ 0)
      ⊢ (iprop(owe c O ∗ atPos ER (cell c (.rcv d (par s))) (s / 2 + 1) ∅ 0 ∗ reached ER (cell c (.rcv d (par s))) (s / 2 + 1)
            ∗ gotten d (par s) c (V d (bwd d c) s)) -∗ Q ⟨⟩)
        -∗ WP c (came (dirOf d c) s) Q := by
  have hr : s / 2 < 31 := by omega
  have hw (J : PUnit → sProp 𝕄) : wpE (defs₀ (F := F)) 𝒱₀ (c : Thread nD τ) none Set.univ
      (.waitDma2 (dsem (rsA d) (par s)) (slotM (sndM d) (par s)) (slotM (rcvM d) (par s)) ((View.wordExact_bits rfl).reshape _ _) ((View.wordExact_bits rfl).reshape _ _)) J
        = waitSpec (c : Thread nD τ) Set.univ (semOf (.rcv d (par s))) N J := by
    rw [wpE_waitDma2_eq, credit_rcv]; rfl
  have hd : dutiesK (.rcv d (par s)) (s / 2) \ ∅ = {0} := by
    rw [Finset.sdiff_empty]; unfold dutiesK; dsimp only; rw [if_pos hr]
  have hm : 0 + N = (dutiesK (.rcv d (par s)) (s / 2)).card * amountK (.rcv d (par s)) := by
    unfold dutiesK amountK; dsimp only; rw [if_pos hr, Finset.card_singleton, Nat.zero_add, Nat.one_mul]
  have hp : payK V c (.rcv d (par s)) (s / 2) 0 ⊢ gotten d (par s) c (V d (bwd d c) s) := by
    unfold payK; dsimp only; rw [half_par]
  iintro ⟨#Hc, HO, Hcr, Hat⟩ Hk
  unfold came Prog.lift
  iapply (wp_rest V K K' c (n := N) (.rcv d (par s)) hw s (by omega) hO (Nat.le_refl (2 * s + 2)) (R := s / 2) (m := 0) (T := ∅) hm) $$ [HO Hcr Hat]
  · isplitr; · iexact Hc
    isplitl [Hcr]; · iexact Hcr
    isplitl [HO] <;> iassumption
  rw [hd, bigSep_singleton]
  iintro ⟨HO, Hat, Hr, Hp⟩
  iapply Hk
  isplitl [HO]; · iexact HO
  isplitl [Hat]; · iexact Hat
  isplitl [Hr]; · iexact Hr
  iapply hp; iexact Hp

end RingQ
-- ==== Proof.Ring.lean ====
module

public import proofs.«01_k».proof.Proof.Link

@[expose] public section

/-!
# The ring

What each direction holds before a step, one step, and all of them.
-/

noncomputable section

namespace RingQ

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.Kernel Cert.Kernel.Gen

variable {F : FTy → Type} [FloatOps F]

local notation "𝕄" => MT nD τ sig ℕ (Elt F) ℕ UU ℕ

variable (Y : Dev nD → OutC F) (K : Dev nD × Kind → ℕ) (K' : Key → ℕ) (c : Dev nD)

/-- What the devices send. -/
abbrev VY : Sent F := fun d c s => sendV d c s (pst Y s c)

theorem pst_rv (d : Fin 2) (s : ℕ) : (pst Y (s + 1) c).rv d = VY Y d (bwd d c) s := rfl

/-- The device ahead has passed the entry meeting. -/
def hello (d : Fin 2) : sProp 𝕄 := iprop(reached ER (cell c .bar) 1 ∗ free d (fwd d c) 0 ∗ free d (fwd d c) 1)

instance hello_persistent (d : Fin 2) : BI.Persistent (hello (F := F) c d) := by unfold hello; infer_instance

/-- How far the receive slots have been released before step `s`. -/
def rdr (d : Fin 2) (s : ℕ) : sProp 𝕄 :=
  if s = 62 then iprop(emp)
  else iprop(readerAt EK (c, d, par s) (s / 2 + 1) ∗ readerAt EK (c, d, par (s + 1)) (max 1 ((s + 1) / 2)) ∗ free d c (max 1 s))

/-- Where the semaphores of the slot that step `t` uses are. -/
def posAt (d : Fin 2) (t : ℕ) : sProp 𝕄 :=
  iprop((atPos ER (cell c (.snd d (par t))) (t / 2) ∅ 0 ∗ reached ER (cell c (.snd d (par t))) (t / 2))
    ∗ (atPos ER (cell c (.rcv d (par t))) (t / 2) ∅ 0 ∗ reached ER (cell c (.rcv d (par t))) (t / 2)))

/-- What a direction keeps beside its send slots before step `s`. -/
def keep (d : Fin 2) (s : ℕ) : sProp 𝕄 :=
  iprop((if s = 62 then slotAny (rcvM d) (par s) c else iprop(emp)) ∗ rdr c d s ∗ posAt c d (s + 1) ∗ crdAt (VY Y) c d s)

/-- A direction before step `s`. -/
def dirInv (d : Fin 2) (s : ℕ) : sProp 𝕄 :=
  iprop(slotAny (sndM d) (par s) c ∗ slotAny (sndM d) (par (s + 1)) c
    ∗ (if s = 0 then iprop(emp) else gotten d (par (s + 1)) c ((pst Y s c).rv d)) ∗ posAt c d s ∗ keep Y c d s)

/-- A direction within step `s`, its send slot filled. -/
def dirMid (d : Fin 2) (s : ℕ) : sProp 𝕄 :=
  iprop(slotVal (sndM d) (par s) c (VY Y d c s) ∗ slotAny (sndM d) (par (s + 1)) c ∗ free d (fwd d c) s
    ∗ (if s = 61 then slotAny (rcvM d) (par (s + 1)) c else iprop(emp)) ∗ rdr c d (s + 1) ∗ posAt c d s ∗ posAt c d (s + 1) ∗ crdAt (VY Y) c d (s + 1))

/-- The receive slot of the step before, released. -/
theorem let_go (d : Fin 2) (s : ℕ) (hs : s < 62) :
    iprop(ctx (VY Y) K K' ∗ (if s = 0 then iprop(emp) else slotAny (rcvM d) (par (s + 1)) c) ∗ rdr c d s ∗ reached ER (cell c (.rcv d (par (s + 1)))) ((s + 1) / 2))
      ⊢ |={Set.univ}=> iprop((if 1 ≤ s ∧ s ≤ 60 then iprop(free d c s ∗ free d c (s + 1)) else iprop(emp))
        ∗ (if s = 61 then slotAny (rcvM d) (par (s + 1)) c else iprop(emp)) ∗ rdr c d (s + 1)) := by
  unfold rdr
  rw [if_neg (show s ≠ 62 by omega)]
  rcases Nat.eq_zero_or_pos s with h0 | h0
  · subst h0
    rw [if_neg (show ¬ (1 ≤ 0 ∧ 0 ≤ 60) by decide), if_neg (show (0 : ℕ) ≠ 61 by decide), if_neg (show 0 + 1 ≠ 62 by decide), par_two]
    iintro ⟨-, -, ⟨H0, H1, Hf⟩, -⟩
    imodintro
    isplitr; · iempintro
    isplitr; · iempintro
    isplitl [H1]; · iexact H1
    isplitl [H0]; · iexact H0
    iexact Hf
  · rw [if_neg (show s ≠ 0 by omega)]
    rcases Nat.lt_or_ge s 61 with h | h
    · rw [if_pos (show 1 ≤ s ∧ s ≤ 60 by omega), if_neg (show s ≠ 61 by omega), if_neg (show s + 1 ≠ 62 by omega), par_two,
        show max 1 s = s by omega, show max 1 (s + 1) = s + 1 by omega, show max 1 ((s + 1) / 2) = (s + 1) / 2 by omega,
        show max 1 ((s + 1 + 1) / 2) = s / 2 + 1 by omega]
      have hrel := release (VY Y) K K' c d (s + 1)
      iintro ⟨#Hc, Hs, ⟨H0, H1, #Hf⟩, #Hr⟩
      imod hrel $$ [Hs H1] with ⟨H1, #Hf'⟩
      · isplitr; · iexact Hc
        isplitl [H1]; · iexact H1
        isplitl [Hs]; · iexact Hs
        iexact Hr
      imodintro
      isplitr
      · isplitr <;> iassumption
      isplitr; · iempintro
      isplitl [H1]; · iexact H1
      isplitl [H0]; · iexact H0
      iexact Hf'
    · have e61 : s = 61 := by omega
      subst e61
      rw [if_neg (by decide), if_pos rfl, if_pos rfl]
      iintro ⟨-, Hs, -, -⟩
      imodintro
      isplitr; · iempintro
      isplitl [Hs]; · iexact Hs
      iempintro

/-- Filling the send slot, the credits. -/
theorem wp_phase (d : Fin 2) (s z : ℕ) (hs : s < 62) (hz : z = 2 * (s - 31) + d.val) (A : ℕ → F .f32) (O : Owe) (hO : Above (2 * s + 1) O)
    {β : Type} (k : (ℕ → F .f32) → Act F β) (Q : β → sProp 𝕄) :
    iprop(ctx (VY Y) K K' ∗ hello c d ∗ dirInv Y c d s ∗ giveTok c d s ∗ takeTok c d s ∗ owe c (O + oweC d c s) ∗ outPts c (midO d c s (pst Y s c)))
      ⊢ (iprop(dirMid Y c d s ∗ owe c O ∗ outPts c (fillO d c s ((pst Y s c).rv d) (midO d c s (pst Y s c))))
          -∗ WP c (k (fillA d c s ((pst Y s c).rv d) (midO d c s (pst Y s c)) A)) Q)
        -∗ WP c (do
          let A' ← fill oM (dirOf d c) s z A
          give (dirOf d c) s
          take (dirOf d c) s
          k A') Q := by
  have hgo := let_go Y K K' c d s hs
  have hg := fun O Q => wp_give (VY Y) K K' c d s O Q
  have ht := fun Q => wp_take (VY Y) K K' c d s (by omega) O hO Q
  have hcame : (if s = 0 then iprop(emp) else gotten d (par (s + 1)) c ((pst Y s c).rv d)) ⊢ came? d c s ((pst Y s c).rv d) := by
    unfold came?
    split
    · exact Entails.rfl
    · unfold gotten; iintro ⟨H, -⟩; iexact H
  have hany : came? d c s ((pst Y s c).rv d) ⊢ (if s = 0 then iprop(emp) else slotAny (rcvM d) (par (s + 1)) c) := by
    unfold came?
    split
    · exact Entails.rfl
    · exact slotVal_any _ _ _ _
  have hfree : iprop(hello c d ∗ (if 2 ≤ s then free d (fwd d c) s else iprop(emp))) ⊢ (free d (fwd d c) s : sProp 𝕄) := by
    unfold hello
    split
    · iintro ⟨-, H⟩; iexact H
    · next h =>
      have : s = 0 ∨ s = 1 := by omega
      rcases this with rfl | rfl
      · iintro ⟨⟨-, H, -⟩, -⟩; iexact H
      · iintro ⟨⟨-, -, H⟩, -⟩; iexact H
  unfold dirInv keep
  iintro ⟨#Hc, #Hh, ⟨Hs0, Hs1, Hgot, Hp0, -, Hrd, Hp1, Hcr⟩, Hgt, Htt, HO, Hout⟩ Hk
  iapply (wp_do c)
  iapply (wp_fill c d s z hz A ((pst Y s c).rv d) (midO d c s (pst Y s c))) $$ [Hs0 Hgot Hout]
  · isplitl [Hs0]; · iexact Hs0
    isplitl [Hgot]; · iapply hcame; iexact Hgot
    iexact Hout
  iintro ⟨Hs0, Hgot, Hout⟩
  unfold posAt
  icases Hp1 with ⟨⟨Hp1a, #Hp1b⟩, Hp1c, #Hp1d⟩
  ihave Hany := hany $$ Hgot
  imod hgo $$ [Hany Hrd] with ⟨Hff, Hlast, Hrd⟩
  · isplitr; · iexact Hc
    isplitl [Hany]; · iexact Hany
    isplitl [Hrd]; · iexact Hrd
    iexact Hp1d
  iapply (wp_do c)
  iapply (hg O) $$ [HO Hgt Hff]
  · isplitr; · iexact Hc
    isplitl [HO]; · iexact HO
    isplitl [Hgt] <;> iassumption
  iintro HO
  iapply (wp_do c)
  iapply ht $$ [HO Htt Hcr]
  · isplitr; · iexact Hc
    isplitl [HO]; · iexact HO
    isplitl [Htt] <;> iassumption
  iintro ⟨HO, Hcr, Hf⟩
  iapply Hk
  isplitl [Hs0 Hs1 Hf Hlast Hrd Hp0 Hp1a Hp1c Hcr]
  · unfold dirMid
    isplitl [Hs0]; · iexact Hs0
    isplitl [Hs1]; · iexact Hs1
    isplitl [Hf]
    · iapply hfree
      isplitr; · iexact Hh
      iexact Hf
    isplitl [Hlast]; · iexact Hlast
    isplitl [Hrd]; · iexact Hrd
    unfold posAt
    isplitl [Hp0]; · iexact Hp0
    isplitl [Hp1a Hp1c]
    · isplitl [Hp1a]
      · isplitl [Hp1a]; · iexact Hp1a
        iexact Hp1b
      isplitl [Hp1c]; · iexact Hp1c
      iexact Hp1d
    iexact Hcr
  isplitl [HO] <;> iassumption

/-- A direction within step `s`, its transfer started. -/
def dirAir (d : Fin 2) (s : ℕ) : sProp 𝕄 :=
  iprop(cred (tallyAt (cell c (.snd d (par s))) 0 N) ∗ slotAny (sndM d) (par (s + 1)) c
    ∗ (if s = 61 then slotAny (rcvM d) (par (s + 1)) c else iprop(emp)) ∗ rdr c d (s + 1) ∗ posAt c d s ∗ posAt c d (s + 1) ∗ crdAt (VY Y) c d (s + 1))

theorem wp_go (d : Fin 2) (s : ℕ) (hs : s < 62) (O : Owe) {β : Type} (k : Act F β) (Q : β → sProp 𝕄) :
    iprop(ctx (VY Y) K K' ∗ hello c d ∗ dirMid Y c d s ∗ shipTok c d s ∗ owe c (O + oweR d c s))
      ⊢ (iprop(dirAir Y c d s ∗ owe c O) -∗ WP c k Q) -∗ WP c (do ship (dirOf d c) s; k) Q := by
  have h := fun Q => wp_ship (VY Y) K K' c d s hs O Q
  unfold dirMid hello posAt
  iintro ⟨#Hc, ⟨#Hb, -⟩, ⟨Hs, Hs1, Hf, Hl, Hrd, ⟨⟨Hp0, #Hr0⟩, Hp0'⟩, Hp1, Hcr⟩, Ht, HO⟩ Hk
  iapply (wp_do c)
  iapply h $$ [HO Ht Hs Hf]
  · isplitr; · iexact Hc
    isplitl [HO]; · iexact HO
    isplitl [Ht]; · iexact Ht
    isplitl [Hs]; · iexact Hs
    isplitl [Hf]; · iexact Hf
    isplitr <;> iassumption
  iintro ⟨HO, Hcred⟩
  iapply Hk
  isplitr [HO]
  · unfold dirAir posAt
    isplitl [Hcred]; · iexact Hcred
    isplitl [Hs1]; · iexact Hs1
    isplitl [Hl]; · iexact Hl
    isplitl [Hrd]; · iexact Hrd
    isplitl [Hp0 Hp0']
    · isplitl [Hp0]
      · isplitl [Hp0]; · iexact Hp0
        iexact Hr0
      iexact Hp0'
    isplitl [Hp1] <;> iassumption
  iexact HO

theorem wp_land (d : Fin 2) (s : ℕ) (hs : s < 62) (O : Owe) (hO : Above (2 * s + 2) O) {β : Type} (k : Act F β) (Q : β → sProp 𝕄) :
    iprop(ctx (VY Y) K K' ∗ dirAir Y c d s ∗ cred (tallyAt (cell c (.rcv d (par s))) s N) ∗ owe c O)
      ⊢ (iprop(dirInv Y c d (s + 1) ∗ owe c O) -∗ WP c k Q) -∗ WP c (do sent (dirOf d c) s; came (dirOf d c) s; k) Q := by
  have hO0 : Above 0 O := fun g i h => ⟨(hO g i h).1, (Nat.zero_le _).trans_lt (hO g i h).2⟩
  have h1 := fun Q => wp_sent (VY Y) K K' c d s hs O hO0 Q
  have h2 := fun Q => wp_came (VY Y) K K' c d s hs O hO Q
  have e : (s + 1 + 1) / 2 = s / 2 + 1 := by omega
  have hl : (if s = 61 then slotAny (rcvM d) (par (s + 1)) c else iprop(emp)) ⊢ (if s + 1 = 62 then slotAny (rcvM d) (par (s + 1)) c else (iprop(emp) : sProp 𝕄)) := by
    by_cases h : s = 61
    · rw [if_pos h, if_pos (by omega)]
    · rw [if_neg h, if_neg (by omega)]
  unfold dirAir posAt
  iintro ⟨#Hc, ⟨Hcred, Hs1, Hl, Hrd, ⟨⟨Hps, -⟩, Hpr, -⟩, Hp1, Hcr⟩, Hcr2, HO⟩ Hk
  iapply (wp_do c)
  iapply h1 $$ [HO Hcred Hps]
  · isplitr; · iexact Hc
    isplitl [HO]; · iexact HO
    isplitl [Hcred] <;> iassumption
  iintro ⟨HO, Hps, #Hrs, Hs0⟩
  iapply (wp_do c)
  iapply h2 $$ [HO Hcr2 Hpr]
  · isplitr; · iexact Hc
    isplitl [HO]; · iexact HO
    isplitl [Hcr2] <;> iassumption
  iintro ⟨HO, Hpr, #Hrr, Hg⟩
  iapply Hk
  isplitr [HO]
  · unfold dirInv keep posAt
    rw [par_two, e, if_neg (Nat.succ_ne_zero s), pst_rv]
    isplitl [Hs1]; · iexact Hs1
    isplitl [Hs0]; · iexact Hs0
    isplitl [Hg]; · iexact Hg
    isplitl [Hp1]; · iexact Hp1
    isplitl [Hl]; · iapply hl; iexact Hl
    isplitl [Hrd]; · iexact Hrd
    isplitl [Hps Hpr]
    · isplitl [Hps]
      · isplitl [Hps]; · iexact Hps
        iexact Hrs
      isplitl [Hpr]; · iexact Hpr
      iexact Hrr
    iexact Hcr
  iexact HO

/-- What a direction spends at step `s`. -/
def stepTok (d : Fin 2) (s : ℕ) : sProp 𝕄 :=
  iprop(giveTok c d s ∗ takeTok c d s ∗ shipTok c d s ∗ cred (tallyAt (cell c (.rcv d (par s))) s N))

def stepToks : ℕ → ℕ → sProp 𝕄
  | 0, _ => iprop(emp)
  | n + 1, s => iprop((stepTok c 0 s ∗ stepTok c 1 s) ∗ stepToks n (s + 1))

theorem wp_step (n s : ℕ) (hs : s + (n + 1) = 62) {β : Type} (k : (ℕ → F .f32) → Act F β) (Q : β → sProp 𝕄) :
    iprop(ctx (VY Y) K K' ∗ (hello c 0 ∗ hello c 1) ∗ (dirInv Y c 0 s ∗ dirInv Y c 1 s) ∗ (stepTok c 0 s ∗ stepTok c 1 s)
        ∗ owe c (oweS c (n + 1) s) ∗ outPts c (pst Y s c).f)
      ⊢ (iprop((dirInv Y c 0 (s + 1) ∗ dirInv Y c 1 (s + 1)) ∗ owe c (oweS c n (s + 1)) ∗ outPts c (pst Y (s + 1) c).f)
          -∗ WP c (k (pst Y (s + 1) c).A) Q)
        -∗ WP c (ringStep oM (dirOf 0 c) (dirOf 1 c) s (pst Y s c).A >>= k) Q := by
  have hs' : s < 62 := by omega
  have a0 {b : ℕ} (hb : b < 2 * s + 4) : Above b (oweS c n (s + 1)) := above_oweS c n (s + 1) (by omega) (by omega)
  have a1 {b : ℕ} (hb : b < 2 * s + 2) : Above b (oweS c n (s + 1) + oweR 1 c s + oweR 0 c s) :=
    above_add (above_add (a0 (by omega)) (above_oweR 1 c s (by omega) hb)) (above_oweR 0 c s (by omega) hb)
  have a2 {b : ℕ} (hb : b < 2 * s + 2) : Above b (oweS c n (s + 1) + oweR 1 c s + oweR 0 c s + oweC 1 c s) :=
    above_add (a1 hb) (above_oweC 1 c s (by omega))
  unfold stepTok
  iintro ⟨#Hc, ⟨#Hh0, #Hh1⟩, ⟨Hd0, Hd1⟩, ⟨⟨Hg0, Ht0, Hs0, Hr0⟩, Hg1, Ht1, Hs1, Hr1⟩, HO, Hout⟩ Hk
  iapply (wp_do c)
  unfold ringStep
  iapply (wp_phase Y K K' c 0 s (2 * (s - 31)) hs' rfl (pst Y s c).A _ (a2 (by omega))) $$ [Hd0 Hg0 Ht0 HO Hout]
  · isplitr; · iexact Hc
    isplitr; · iexact Hh0
    isplitl [Hd0]; · iexact Hd0
    isplitl [Hg0]; · iexact Hg0
    isplitl [Ht0]; · iexact Ht0
    isplitl [HO]; · iexact HO
    iexact Hout
  iintro ⟨Hd0, HO, Hout⟩
  iapply (wp_phase Y K K' c 1 s (2 * (s - 31) + 1) hs' rfl _ _ (a1 (by omega))) $$ [Hd1 Hg1 Ht1 HO Hout]
  · isplitr; · iexact Hc
    isplitr; · iexact Hh1
    isplitl [Hd1]; · iexact Hd1
    isplitl [Hg1]; · iexact Hg1
    isplitl [Ht1]; · iexact Ht1
    isplitl [HO]; · iexact HO
    iexact Hout
  iintro ⟨Hd1, HO, Hout⟩
  iapply (wp_go Y K K' c 0 s hs') $$ [Hd0 Hs0 HO]
  · isplitr; · iexact Hc
    isplitr; · iexact Hh0
    isplitl [Hd0]; · iexact Hd0
    isplitl [Hs0] <;> iassumption
  iintro ⟨Hd0, HO⟩
  iapply (wp_go Y K K' c 1 s hs') $$ [Hd1 Hs1 HO]
  · isplitr; · iexact Hc
    isplitr; · iexact Hh1
    isplitl [Hd1]; · iexact Hd1
    isplitl [Hs1] <;> iassumption
  iintro ⟨Hd1, HO⟩
  iapply (wp_land Y K K' c 0 s hs' _ (a0 (by omega))) $$ [Hd0 Hr0 HO]
  · isplitr; · iexact Hc
    isplitl [Hd0]; · iexact Hd0
    isplitl [Hr0] <;> iassumption
  iintro ⟨Hd0, HO⟩
  iapply (wp_land Y K K' c 1 s hs' _ (a0 (by omega))) $$ [Hd1 Hr1 HO]
  · isplitr; · iexact Hc
    isplitl [Hd1]; · iexact Hd1
    isplitl [Hr1] <;> iassumption
  iintro ⟨Hd1, HO⟩
  iapply (wp_pure c)
  iapply Hk
  isplitl [Hd0 Hd1]; · isplitl [Hd0] <;> iassumption
  isplitl [HO]; · iexact HO
  iexact Hout

theorem wp_ring (n s : ℕ) (hs : s + n = 62) (Q : (ℕ → F .f32) → sProp 𝕄) :
    iprop(ctx (VY Y) K K' ∗ (hello c 0 ∗ hello c 1) ∗ (dirInv Y c 0 s ∗ dirInv Y c 1 s) ∗ stepToks c n s
        ∗ owe c (oweS c n s) ∗ outPts c (pst Y s c).f)
      ⊢ (iprop((dirInv Y c 0 62 ∗ dirInv Y c 1 62) ∗ owe c (oweB c 1) ∗ outPts c (pst Y 62 c).f) -∗ Q (pst Y 62 c).A)
        -∗ WP c (ring oM (dirOf 0 c) (dirOf 1 c) n s (pst Y s c).A) Q := by
  induction n generalizing s with
  | zero =>
    obtain rfl : s = 62 := by omega
    iintro ⟨-, -, Hd, -, HO, Hout⟩ Hk
    iapply (wp_pure c)
    iapply Hk
    isplitl [Hd]; · iexact Hd
    isplitl [HO]; · iexact HO
    iexact Hout
  | succ n ih =>
    have hi := ih (s + 1) (by omega)
    unfold ring stepToks
    iintro ⟨#Hc, #Hh, Hd, ⟨Ht, Hts⟩, HO, Hout⟩ Hk
    iapply (wp_step Y K K' c n s hs) $$ [Hd Ht HO Hout]
    · isplitr; · iexact Hc
      isplitr; · iexact Hh
      isplitl [Hd]; · iexact Hd
      isplitl [Ht]; · iexact Ht
      isplitl [HO]; · iexact HO
      iexact Hout
    iintro ⟨Hd, HO, Hout⟩
    iapply hi $$ [Hd Hts HO Hout]
    · isplitr; · iexact Hc
      isplitr; · iexact Hh
      isplitl [Hd]; · iexact Hd
      isplitl [Hts]; · iexact Hts
      isplitl [HO]; · iexact HO
      iexact Hout
    iexact Hk

end RingQ
-- ==== Proof.Whole.lean ====
module

public import proofs.«01_k».proof.Proof.Ring

@[expose] public section

/-!
# The whole body
-/

noncomputable section

namespace RingQ

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.Kernel Cert.Kernel.Gen

variable {F : FTy → Type} [FloatOps F]

local notation "𝕄" => MT nD τ sig ℕ (Elt F) ℕ UU ℕ

variable (V : Sent F) (Y : Dev nD → OutC F) (K : Dev nD × Kind → ℕ) (K' : Key → ℕ) (c : Dev nD)

/-! ## Meeting -/

/-- What a meeting spends. -/
def meetTok (i : ℕ) : sProp 𝕄 :=
  iprop(dutyTok ER (cell (lft c) .bar) i 0 ∗ dutyTok ER (cell (rgt c) .bar) i 1 ∗ cred (tallyAt (cell c .bar) i 2))

theorem wp_meet (i : ℕ) (hi : i < 2) (O : Owe) {b : ℕ} (hO : Above b O) (hb : lvK .bar i ≤ b) {β : Type} (k : Act F β) (Q : β → sProp 𝕄) :
    iprop(ctx V K K' ∗ owe c (O + oweB c i) ∗ meetTok c i ∗ payK V (lft c) .bar i 0 ∗ payK V (rgt c) .bar i 1
        ∗ reached ER (cell (lft c) .bar) i ∗ reached ER (cell (rgt c) .bar) i ∗ atPos ER (cell c .bar) i ∅ 0)
      ⊢ (iprop(owe c O ∗ atPos ER (cell c .bar) (i + 1) ∅ 0 ∗ reached ER (cell c .bar) (i + 1)
            ∗ payK V c .bar i 0 ∗ payK V c .bar i 1) -∗ WP c k Q)
        -∗ WP c (do meet c; k) Q := by
  have hd : dutiesK .bar i = Finset.range 2 := by unfold dutiesK; dsimp only; rw [if_pos hi]
  have hj0 : 0 ∈ dutiesK .bar i := by rw [hd]; decide
  have hj1 : 1 ∈ dutiesK .bar i := by rw [hd]; decide
  have hm : 0 + 2 = (dutiesK .bar i).card * amountK .bar := by rw [hd]; rfl
  have hp : bigSep (dutiesK .bar i \ ∅) (fun j => payK V c .bar i j) ⊢ iprop(payK V c .bar i 0 ∗ payK V c .bar i 1) := by
    rw [hd, Finset.sdiff_empty, show Finset.range 2 = insert 0 {1} by decide, BI.bigSep_insert (by decide), bigSep_singleton]
    exact Entails.rfl
  unfold meet meetTok oweB
  rw [← add_assoc]
  iintro ⟨#Hc, HO, ⟨Ht0, Ht1, Hcr⟩, Hp0, Hp1, Hr0, Hr1, Hat⟩ Hk
  iapply (wp_do c)
  iapply (wp_do c)
  iapply (wp_sig V K K' c (lft c) .bar barS rfl rfl i 0 i hj0 _) $$ [HO Ht0 Hp0 Hr0]
  · isplitr; · iexact Hc
    isplitl [HO]; · iexact HO
    isplitl [Ht0]; · iexact Ht0
    isplitl [Hp0] <;> iassumption
  iintro HO
  iapply (wp_do c)
  iapply (wp_sig V K K' c (rgt c) .bar barS rfl rfl i 1 i hj1 _) $$ [HO Ht1 Hp1 Hr1]
  · isplitr; · iexact Hc
    isplitl [HO]; · iexact HO
    isplitl [Ht1]; · iexact Ht1
    isplitl [Hp1] <;> iassumption
  iintro HO
  unfold semWaitWord
  iapply (wp_rest V K K' c (n := 2) .bar (wpE_semWait_eq 𝒱₀ (c : Thread nD τ) none Set.univ) i (by omega) hO hb (R := i) (m := 0) (T := ∅) hm) $$ [HO Hcr Hat]
  · isplitr; · iexact Hc
    isplitl [Hcr]; · iexact Hcr
    isplitl [HO] <;> iassumption
  iintro ⟨HO, Hat, Hr, Hp⟩
  iapply Hk
  isplitl [HO]; · iexact HO
  isplitl [Hat]; · iexact Hat
  isplitl [Hr]; · iexact Hr
  iapply hp; iexact Hp

/-! ## Going in and coming out -/

/-- A direction's buffers. -/
def bufs (d : Fin 2) : sProp 𝕄 :=
  iprop((slotAny (sndM d) 0 c ∗ slotAny (sndM d) 1 c) ∗ slotAny (rcvM d) 0 c ∗ slotAny (rcvM d) 1 c)

/-- A direction's semaphores at rest. -/
def zeros (d : Fin 2) : sProp 𝕄 :=
  iprop((semVal (cell c (.snd d 0)) 0 ∗ semVal (cell c (.snd d 1)) 0) ∗ (semVal (cell c (.rcv d 0)) 0 ∗ semVal (cell c (.rcv d 1)) 0)
    ∗ semVal (cell c (.crd d)) 0)

/-- A direction's semaphores at the start. -/
def heads (d : Fin 2) : sProp 𝕄 :=
  iprop((atPos ER (cell c (.snd d 0)) 0 ∅ 0 ∗ atPos ER (cell c (.snd d 1)) 0 ∅ 0)
    ∗ (atPos ER (cell c (.rcv d 0)) 0 ∅ 0 ∗ atPos ER (cell c (.rcv d 1)) 0 ∅ 0) ∗ atPos ER (cell c (.crd d)) 0 ∅ 0)

/-- The receive slots' readers at the start. -/
def readers (d : Fin 2) : sProp 𝕄 := iprop(readerAt EK (c, d, 0) 0 ∗ readerAt EK (c, d, 1) 0)

/-- A direction before its receive slots' first release is passed on. -/
def dirPre (d : Fin 2) : sProp 𝕄 :=
  iprop((slotAny (sndM d) 0 c ∗ slotAny (sndM d) 1 c) ∗ heads c d ∗ readerAt EK (c, d, 0) 1 ∗ readerAt EK (c, d, 1) 1)

theorem go_in (d : Fin 2) :
    iprop(ctx V K K' ∗ bufs c d ∗ heads c d ∗ readers c d) ⊢ |={Set.univ}=> iprop(dirPre c d ∗ free d c 0 ∗ free d c 1) := by
  have h0 := release V K K' c d 0
  have h1 := release V K K' c d 1
  have hr (p : Fin 2) := ctx_reached V K K' c (.rcv d p)
  unfold bufs readers dirPre
  iintro ⟨#Hc, ⟨Hs, Ha, Hb⟩, Hh, H0, H1⟩
  imod h0 $$ [Ha H0] with ⟨H0, #Hf0⟩
  · isplitr; · iexact Hc
    isplitl [H0]; · iexact H0
    isplitl [Ha]; · iexact Ha
    iapply (hr 0); iexact Hc
  imod h1 $$ [Hb H1] with ⟨H1, #Hf1⟩
  · isplitr; · iexact Hc
    isplitl [H1]; · iexact H1
    isplitl [Hb]; · iexact Hb
    iapply (hr 1); iexact Hc
  imodintro
  isplitl [Hs Hh H0 H1]
  · isplitl [Hs]; · iexact Hs
    isplitl [Hh]; · iexact Hh
    isplitl [H0]; · iexact H0
    iexact H1
  isplitr <;> iassumption

theorem dirInv_zero (d : Fin 2) : iprop(ctx V K K' ∗ dirPre c d ∗ free d c 1) ⊢ dirInv Y c d 0 := by
  have hs (p : Fin 2) := ctx_reached V K K' c (.snd d p)
  have hr (p : Fin 2) := ctx_reached V K K' c (.rcv d p)
  unfold dirPre heads dirInv keep rdr posAt crdAt
  rw [if_pos rfl, if_neg (show (0 : ℕ) ≠ 62 by decide), if_neg (show (0 : ℕ) ≠ 62 by decide), if_pos (show 0 ≤ 61 by decide)]
  iintro ⟨#Hc, ⟨⟨Hs0, Hs1⟩, ⟨⟨Ha0, Ha1⟩, ⟨Hb0, Hb1⟩, Hcr⟩, H0, H1⟩, Hf⟩
  isplitl [Hs0]; · iexact Hs0
  isplitl [Hs1]; · iexact Hs1
  isplitr; · iempintro
  isplitl [Ha0 Hb0]
  · isplitl [Ha0]
    · isplitl [Ha0]; · iexact Ha0
      iapply (hs 0); iexact Hc
    isplitl [Hb0]; · iexact Hb0
    iapply (hr 0); iexact Hc
  isplitr; · iempintro
  isplitl [H0 H1 Hf]
  · isplitl [H0]; · iexact H0
    isplitl [H1]; · iexact H1
    iexact Hf
  isplitl [Ha1 Hb1]
  · isplitl [Ha1]
    · isplitl [Ha1]; · iexact Ha1
      iapply (hs 1); iexact Hc
    isplitl [Hb1]; · iexact Hb1
    iapply (hr 1); iexact Hc
  iexists ∅
  isplitr; · ipureintro; exact Finset.empty_subset _
  isplitl [Hcr]; · iexact Hcr
  rw [bigSep_empty]; iempintro

theorem close (k : Kind) (R : ℕ) (h : ∀ r, R ≤ r → dutiesK k r = ∅) :
    iprop(ctx V K K' ∗ atPos ER (cell c k) R ∅ 0) ⊢ |={Set.univ}=> semVal (cell c k) 0 := by
  have hc := cell_close ER (Rd V) (g := cell c k) (κ := K (c, k)) (Es := Set.univ) (Set.mem_univ _) (fun h => h) (R := R)
    (fun r hr => by rw [duties_cell]; exact h r hr)
  have hI := ctx_cell V K K' c k
  iintro ⟨#Hc, Hat⟩
  iapply hc
  isplitr; · iapply hI; iexact Hc
  iexact Hat

/-- A direction after the ring, what it received last being `r`. -/
def dirOut (d : Fin 2) (r : Vec F S1x128x1024 .f32) : sProp 𝕄 :=
  iprop(slotVal (rcvM d) (par (62 + 1)) c r ∗ reached ER (cell (bwd d c) .bar) 1
      ∗ ((slotAny (sndM d) 0 c ∗ slotAny (sndM d) 1 c) ∗ slotAny (rcvM d) 0 c)
      ∗ (atPos ER (cell c (.snd d 0)) 31 ∅ 0 ∗ atPos ER (cell c (.snd d 1)) 31 ∅ 0)
      ∗ (atPos ER (cell c (.rcv d 0)) 31 ∅ 0 ∗ atPos ER (cell c (.rcv d 1)) 31 ∅ 0) ∗ atPos ER (cell c (.crd d)) 1 ∅ 0)

theorem come_out (d : Fin 2) : dirInv Y c d 62 ⊢ dirOut c d ((pst Y 62 c).rv d) := by
  unfold dirOut dirInv keep gotten posAt crdAt
  rw [if_neg (show (62 : ℕ) ≠ 0 by decide), if_pos rfl, if_neg (show ¬ (62 ≤ 61) by decide)]
  iintro ⟨Hs0, Hs1, ⟨Hg, Hb⟩, ⟨⟨Ha0, -⟩, Hb0, -⟩, Hr, -, ⟨⟨Ha1, -⟩, Hb1, -⟩, Hcr⟩
  isplitl [Hg]; · iexact Hg
  isplitl [Hb]; · iexact Hb
  isplitl [Hs0 Hs1 Hr]
  · isplitr [Hr]
    · isplitl [Hs0]; · iexact Hs0
      iexact Hs1
    iexact Hr
  isplitl [Ha0 Ha1]
  · isplitl [Ha0]; · iexact Ha0
    iexact Ha1
  isplitl [Hb0 Hb1]
  · isplitl [Hb0]; · iexact Hb0
    iexact Hb1
  iexact Hcr

theorem rest (d : Fin 2) :
    iprop(ctx V K K' ∗ (atPos ER (cell c (.snd d 0)) 31 ∅ 0 ∗ atPos ER (cell c (.snd d 1)) 31 ∅ 0)
      ∗ (atPos ER (cell c (.rcv d 0)) 31 ∅ 0 ∗ atPos ER (cell c (.rcv d 1)) 31 ∅ 0) ∗ atPos ER (cell c (.crd d)) 1 ∅ 0)
      ⊢ |={Set.univ}=> zeros c d := by
  have hs (p : Fin 2) := close V K K' c (.snd d p) 31 (fun r h => by unfold dutiesK; dsimp only; rw [if_neg (by omega)])
  have hr (p : Fin 2) := close V K K' c (.rcv d p) 31 (fun r h => by unfold dutiesK; dsimp only; rw [if_neg (by omega)])
  have hc := close V K K' c (.crd d) 1 (fun r h => by unfold dutiesK; dsimp only; rw [if_neg (by omega)])
  unfold zeros
  iintro ⟨#Hc, ⟨Ha0, Ha1⟩, ⟨Hb0, Hb1⟩, Hcr⟩
  imod (hs 0) $$ [Ha0] with Ha0
  · isplitr <;> iassumption
  imod (hs 1) $$ [Ha1] with Ha1
  · isplitr <;> iassumption
  imod (hr 0) $$ [Hb0] with Hb0
  · isplitr <;> iassumption
  imod (hr 1) $$ [Hb1] with Hb1
  · isplitr <;> iassumption
  imod hc $$ [Hcr] with Hcr
  · isplitr <;> iassumption
  imodintro
  isplitl [Ha0 Ha1]; · isplitl [Ha0] <;> iassumption
  isplitl [Hb0 Hb1]; · isplitl [Hb0] <;> iassumption
  iexact Hcr

/-! ## The body -/

/-- What a device starts from. -/
def atStart : sProp 𝕄 :=
  iprop(((bufs c 0 ∗ heads c 0 ∗ readers c 0) ∗ (bufs c 1 ∗ heads c 1 ∗ readers c 1)) ∗ atPos ER (cell c .bar) 0 ∅ 0
    ∗ (meetTok c 0 ∗ meetTok c 1) ∗ stepToks c 62 0)

/-- What it ends with. -/
def atEnd : sProp 𝕄 := iprop((bufs c 0 ∗ bufs c 1) ∗ (zeros c 0 ∗ zeros c 1) ∗ semVal (cell c .bar) 0)

theorem pay_bar (d : Fin 2) : iprop(free d c 0 ∗ free d c 1) ⊢ payK V (bwd d c) .bar 0 d.val := by
  have e : dirJ d.val = d := by revert d; decide
  unfold payK; dsimp only
  rw [if_pos rfl, e, fwd_bwd]
theorem bar_pay (d : Fin 2) : payK V c .bar 0 d.val ⊢ iprop(free d (fwd d c) 0 ∗ free d (fwd d c) 1) := by
  have e : dirJ d.val = d := by revert d; decide
  unfold payK; dsimp only
  rw [if_pos rfl, e]

/-- The array and the table after step `s`. -/
abbrev endF (s : ℕ) (p : PSt F) : OutC F := fillO 1 c s (p.rv 1) (fillO 0 c s (p.rv 0) p.f)
abbrev endT (s : ℕ) (p : PSt F) : ℕ → F .f32 := fillA 1 c s (p.rv 1) (fillO 0 c s (p.rv 0) p.f) (fillA 0 c s (p.rv 0) p.f p.A)

theorem pst_f (s : ℕ) : (pst Y (s + 1) c).f = endF c s (pst Y s c) := rfl
theorem pst_A (s : ℕ) : (pst Y (s + 1) c).A = endT c s (pst Y s c) := rfl

/-- The result, from the state at the end. -/
def outP (p : PSt F) : OutC F := asm fun k => qntV (scaleV p.A) (invV p.A) (rdRow k p.f)

theorem outP_eq (p : PSt F) : (asm fun k => qntV (scaleV p.A) (invV p.A) (rdRow k p.f)) = outP p := rfl

theorem outP_step (p q : PSt F) (s : ℕ) (hf : q.f = endF c s p) (hA : q.A = endT c s p) :
    outP q = asm fun k => qntV (scaleV (endT c s p)) (invV (endT c s p)) (rdRow k (endF c s p)) := by
  rw [← hf, ← hA]; rfl

theorem outO_end : outO Y c
    = asm fun k => qntV (scaleV (endT c 62 (pst Y 62 c))) (invV (endT c 62 (pst Y 62 c))) (rdRow k (endF c 62 (pst Y 62 c))) :=
  (outP_eq (pst Y 63 c)).trans (outP_step c (pst Y 62 c) (pst Y 63 c) 62 (pst_f Y c 62) (pst_A Y c 62))

/-- From the ring's end on. -/
theorem wp_tail (p : PSt F) (Q : PUnit → sProp 𝕄) :
    iprop(ctx V K K' ∗ (dirOut c 0 (p.rv 0) ∗ dirOut c 1 (p.rv 1)) ∗ owe c (oweB c 1) ∗ meetTok c 1 ∗ atPos ER (cell c .bar) 1 ∅ 0 ∗ outPts c p.f)
      ⊢ (iprop(atEnd c ∗ owe c 0
            ∗ outPts c (asm fun k => qntV (scaleV (endT c 62 p)) (invV (endT c 62 p)) (rdRow k (endF c 62 p)))) -∗ Q ⟨⟩)
        -∗ WP c (do
          let A ← last oM (dirOf 0 c) 62 p.A
          let A ← last oM (dirOf 1 c) 63 A
          meet c
          each (qntStep oM (scaleV A) (invV A)) 32 0) Q := by
  have hm1 := fun k Q => wp_meet (β := PUnit) V K K' c 1 (by decide) 0 (above_zero 1000) (Nat.le_refl 1000) k Q
  have hcl := close V K K' c .bar 2 (fun r h => by unfold dutiesK; dsimp only; rw [if_neg (by omega)])
  have he (b : Dev nD) (j : ℕ) : iprop(emp) ⊢ payK V b .bar 1 j := by unfold payK; dsimp only; rw [if_neg (by decide)]
  have hrest (d : Fin 2) := rest V K K' c d
  have ho : owe c (oweB c 1) ⊢ (owe c (0 + oweB c 1) : sProp 𝕄) := by rw [zero_add]
  have hany (d : Fin 2) : iprop(((slotAny (sndM d) 0 c ∗ slotAny (sndM d) 1 c) ∗ slotAny (rcvM d) 0 c) ∗ slotVal (rcvM d) (par (62 + 1)) c (p.rv d))
      ⊢ (bufs c d : sProp 𝕄) := by
    have h := slotVal_any (F := F) (rcvM d) (par (62 + 1)) c (p.rv d)
    unfold bufs
    iintro ⟨⟨Hs, H0⟩, H1⟩
    isplitl [Hs]; · iexact Hs
    isplitl [H0]; · iexact H0
    iapply h; iexact H1
  unfold dirOut
  iintro ⟨#Hc, ⟨⟨Hv0, #Hr0, Hs0, Ha0⟩, Hv1, #Hr1, Hs1, Ha1⟩, HO, Hm1, Hat, Hout⟩ Hk
  iapply (wp_do c)
  iapply (wp_last c 0 62 rfl p.A (p.rv 0) p.f) $$ [Hv0 Hout]
  · isplitl [Hv0] <;> iassumption
  iintro ⟨Hv0, Hout⟩
  iapply (wp_do c)
  iapply (wp_last c 1 63 rfl _ (p.rv 1) _) $$ [Hv1 Hout]
  · isplitl [Hv1] <;> iassumption
  iintro ⟨Hv1, Hout⟩
  iapply hm1 $$ [HO Hm1 Hat]
  · isplitr; · iexact Hc
    isplitl [HO]; · iapply ho; iexact HO
    isplitl [Hm1]; · iexact Hm1
    isplitr; · iapply (he (lft c) 0); iempintro
    isplitr; · iapply (he (rgt c) 1); iempintro
    isplitr; · iexact Hr0
    isplitr; · iexact Hr1
    iexact Hat
  iintro ⟨HO, Hat, -, -, -⟩
  iapply fupd_wp
  imod (hrest 0) $$ [Ha0] with Ha0
  · isplitr <;> iassumption
  imod (hrest 1) $$ [Ha1] with Ha1
  · isplitr <;> iassumption
  imod hcl $$ [Hat] with Hat
  · isplitr <;> iassumption
  imodintro
  iapply (wp_qnts c (scaleV (endT c 62 p)) (invV (endT c 62 p)) (endF c 62 p)) $$ Hout
  iintro Hout
  iapply Hk
  isplitl [Hv0 Hv1 Hs0 Hs1 Ha0 Ha1 Hat]
  · unfold atEnd
    isplitl [Hv0 Hv1 Hs0 Hs1]
    · isplitl [Hv0 Hs0]
      · iapply (hany 0)
        isplitl [Hs0] <;> iassumption
      iapply (hany 1)
      isplitl [Hs1] <;> iassumption
    isplitr [Hat]
    · isplitl [Ha0] <;> iassumption
    iexact Hat
  isplitl [HO]; · iexact HO
  iexact Hout

/-- Up to the ring. -/
theorem wp_head (X : (cc0_stg0_0 : Ref sig .tc).ty.Contents (Elt F)) (W : (cc0_stg1_0 : Ref sig .tc).ty.Contents (Elt F)) (f : OutC F)
    {β : Type} (k : Act F β) (Q : β → sProp 𝕄) :
    iprop(ctx (VY Y) K K' ∗ atStart c ∗ owe c (O₀ c) ∗ (xPts c X ∗ wPts c W) ∗ outPts c f)
      ⊢ (iprop((hello c 0 ∗ hello c 1) ∗ (dirInv Y c 0 0 ∗ dirInv Y c 1 0) ∗ stepToks c 62 0 ∗ owe c (oweS c 62 0) ∗ meetTok c 1
            ∗ atPos ER (cell c .bar) 1 ∅ 0 ∗ (xPts c X ∗ wPts c W) ∗ outPts c (prodO X W)) -∗ WP c k Q)
        -∗ WP c (do meet c; each (dotStep xM wM oM) 32 0; k) Q := by
  have a0 : Above 1 (oweS c 62 0) := above_oweS c 62 0 (by decide) (by decide)
  have hm0 := fun (k : Act F β) Q => wp_meet (VY Y) K K' c 0 (by decide) (oweS c 62 0) a0 (Nat.le_refl 1) k Q
  have hin (d : Fin 2) := go_in (VY Y) K K' c d
  have hpay (d : Fin 2) := pay_bar (VY Y) c d
  have hbar0 : payK (VY Y) c .bar 0 0 ⊢ iprop(free 0 (fwd 0 c) 0 ∗ free 0 (fwd 0 c) 1) := bar_pay (VY Y) c 0
  have hbar1 : payK (VY Y) c .bar 0 1 ⊢ iprop(free 1 (fwd 1 c) 0 ∗ free 1 (fwd 1 c) 1) := bar_pay (VY Y) c 1
  have hb (d : Fin 2) := ctx_reached (VY Y) K K' (bwd d c) .bar
  have hz (d : Fin 2) := dirInv_zero (VY Y) Y K K' c d
  unfold atStart O₀
  iintro ⟨#Hc, ⟨⟨⟨Hb0, Hh0, Hd0⟩, Hb1, Hh1, Hd1⟩, Hat, ⟨Hm0, Hm1⟩, Ht⟩, HO, Hx, Hout⟩ Hk
  imod (hin 0) $$ [Hb0 Hh0 Hd0] with ⟨Hp0, #Hf00, #Hf01⟩
  · isplitr; · iexact Hc
    isplitl [Hb0]; · iexact Hb0
    isplitl [Hh0] <;> iassumption
  imod (hin 1) $$ [Hb1 Hh1 Hd1] with ⟨Hp1, #Hf10, #Hf11⟩
  · isplitr; · iexact Hc
    isplitl [Hb1]; · iexact Hb1
    isplitl [Hh1] <;> iassumption
  iapply hm0 $$ [HO Hm0 Hat]
  · isplitr; · iexact Hc
    isplitl [HO]; · iexact HO
    isplitl [Hm0]; · iexact Hm0
    isplitr
    · iapply (hpay 0)
      isplitr <;> iassumption
    isplitr
    · iapply (hpay 1)
      isplitr <;> iassumption
    isplitr; · iapply (hb 0); iexact Hc
    isplitr; · iapply (hb 1); iexact Hc
    iexact Hat
  iintro ⟨HO, Hat, #Hb, Hq0, Hq1⟩
  ihave Hq0' := hbar0 $$ Hq0
  ihave Hq1' := hbar1 $$ Hq1
  icases Hq0' with ⟨#Hg00, #Hg01⟩
  icases Hq1' with ⟨#Hg10, #Hg11⟩
  iapply (wp_do c)
  iapply (wp_dots c X W f) $$ [Hx Hout]
  · isplitl [Hx] <;> iassumption
  iintro ⟨Hx, Hout⟩
  iapply Hk
  isplitr
  · unfold hello
    isplitr
    · isplitr; · iexact Hb
      isplitr <;> iassumption
    isplitr; · iexact Hb
    isplitr <;> iassumption
  isplitl [Hp0 Hp1]
  · isplitl [Hp0]
    · iapply (hz 0)
      isplitr; · iexact Hc
      isplitl [Hp0]; · iexact Hp0
      iexact Hf01
    iapply (hz 1)
    isplitr; · iexact Hc
    isplitl [Hp1]; · iexact Hp1
    iexact Hf11
  isplitl [Ht]; · iexact Ht
  isplitl [HO]; · iexact HO
  isplitl [Hm1]; · iexact Hm1
  isplitl [Hat]; · iexact Hat
  isplitl [Hx] <;> iassumption

theorem wp_bodyAt (X : (cc0_stg0_0 : Ref sig .tc).ty.Contents (Elt F)) (W : (cc0_stg1_0 : Ref sig .tc).ty.Contents (Elt F)) (f : OutC F)
    (hY : Y c = prodO X W) (Q : PUnit → sProp 𝕄) :
    iprop(ctx (VY Y) K K' ∗ atStart c ∗ owe c (O₀ c) ∗ (xPts c X ∗ wPts c W) ∗ outPts c f)
      ⊢ (iprop(atEnd c ∗ owe c 0 ∗ (xPts c X ∗ wPts c W) ∗ outPts c (outO Y c)) -∗ Q ⟨⟩)
        -∗ WP c (bodyAt xM wM oM (dirOf 0) (dirOf 1) c) Q := by
  have hd0 := come_out Y c 0
  have hd1 := come_out Y c 1
  rw [outO_end]
  unfold bodyAt
  iintro ⟨#Hc, Hst, HO, Hx, Hout⟩ Hk
  iapply (wp_head Y K K' c X W f) $$ [Hst HO Hx Hout]
  · isplitr; · iexact Hc
    isplitl [Hst]; · iexact Hst
    isplitl [HO]; · iexact HO
    isplitl [Hx] <;> iassumption
  rw [← hY]
  iintro ⟨#Hh, Hd, Ht, HO, Hm, Hat, Hx, Hout⟩
  iapply (wp_do c)
  iapply (wp_ring Y K K' c 62 0 rfl) $$ [Hd Ht HO Hout]
  · isplitr; · iexact Hc
    isplitr; · iexact Hh
    isplitl [Hd]; · iexact Hd
    isplitl [Ht]; · iexact Ht
    isplitl [HO]; · iexact HO
    iexact Hout
  iintro ⟨⟨Hd0, Hd1⟩, HO, Hout⟩
  ihave Ho0 := hd0 $$ Hd0
  ihave Ho1 := hd1 $$ Hd1
  iapply (wp_tail (VY Y) K K' c (pst Y 62 c)) $$ [Ho0 Ho1 HO Hm Hat Hout]
  · isplitr; · iexact Hc
    isplitl [Ho0 Ho1]; · isplitl [Ho0] <;> iassumption
    isplitl [HO]; · iexact HO
    isplitl [Hm]; · iexact Hm
    isplitl [Hat] <;> iassumption
  iintro ⟨He, HO, Hout⟩
  iapply Hk
  isplitl [He]; · iexact He
  isplitl [HO]; · iexact HO
  isplitl [Hx] <;> iassumption

end RingQ
-- ==== Proof.Start.lean ====
module

public import proofs.«01_k».proof.Proof.Whole
public import Idealize.ShloMosaic.Lib.Ring

@[expose] public section

/-!
# Dealing out the start

The tokens of the rounds are dealt to the device that pays each duty; the tokens of the receive slots' writes to the device
that writes; what the devices owe one another comes back as each one's credit.
-/

noncomputable section

namespace RingQ

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf launchCred launchCred_add launchCred_tallyAt launchCred_zero)
open Idealize.ShloMosaic.Ring (bigSep_fin2 slots2_split slots2_join)
open Cert.Kernel Cert.Kernel.Gen

variable {F : FTy → Type} [FloatOps F]

local notation "𝕄" => MT nD τ sig ℕ (Elt F) ℕ UU ℕ

variable (V : Sent F) (c : Dev nD)

/-! ## Credit -/

theorem cred_R (d : Fin 2) (s : ℕ) : (launchCred (fun e => oweR d e s) c : sProp 𝕄) ⊢ cred (tallyAt (cell c (.rcv d (par s))) s N) :=
  launchCred_tallyAt (semOf (.rcv d (par s))) (fwd d) (bwd d) (fwd_bwd d) (bwd_fwd d) s N c

/-- What the step before `s` on the device ahead will have signalled, while there is a step `s`. -/
def owing (d : Fin 2) (s : ℕ) : sProp 𝕄 := if s ≤ 61 then takeTok c d s else iprop(emp)

theorem cred_C (d : Fin 2) (s : ℕ) (hs : s ≤ 61) : (launchCred (fun e => oweC d e s) c : sProp 𝕄) ⊢ owing c d (s + 1) := by
  unfold owing oweC takeTok
  by_cases h : 1 ≤ s ∧ s ≤ 60
  · simp only [if_pos h, if_pos (show s + 1 ≤ 61 by omega), if_pos (show 2 ≤ s + 1 by omega), Nat.add_sub_cancel]
    exact launchCred_tallyAt (semOf (.crd d)) (bwd d) (fwd d) (bwd_fwd d) (fwd_bwd d) s 1 c
  · simp only [if_neg h]
    rw [launchCred_zero]
    split
    · rw [if_neg (show ¬ 2 ≤ s + 1 by omega)]
    · exact Entails.rfl

theorem cred_B (i : ℕ) : (launchCred (fun e => oweB e i) c : sProp 𝕄) ⊢ cred (tallyAt (cell c .bar) i 2) := by
  unfold oweB
  rw [launchCred_add, show (tallyAt (cell c .bar) i 2 : CellTallies nD τ sig ℕ) = tallyAt (cell c .bar) i 1 + tallyAt (cell c .bar) i 1 from (tallyAt_add _ _ 1 1).symm]
  have h0 : (launchCred (fun e : Dev nD => (tallyAt (cell (rgt e) .bar) i 1 : Owe)) c : sProp 𝕄) ⊢ cred (tallyAt (cell c .bar) i 1) :=
    launchCred_tallyAt (semOf .bar) (fwd 0) (bwd 0) (fwd_bwd 0) (bwd_fwd 0) i 1 c
  have h1 : (launchCred (fun e : Dev nD => (tallyAt (cell (lft e) .bar) i 1 : Owe)) c : sProp 𝕄) ⊢ cred (tallyAt (cell c .bar) i 1) :=
    launchCred_tallyAt (semOf .bar) (fwd 1) (bwd 1) (fwd_bwd 1) (bwd_fwd 1) i 1 c
  exact (BI.sep_mono h0 h1).trans (cred_add _ _).2

/-- The tokens of a step. -/
def dealt (s : ℕ) : sProp 𝕄 := iprop((giveTok c 0 s ∗ shipTok c 0 s) ∗ giveTok c 1 s ∗ shipTok c 1 s)

theorem cred_S (n s : ℕ) (h : s + n = 62) :
    iprop(launchCred (fun e => oweS e n s) c ∗ (owing c 0 s ∗ owing c 1 s) ∗ bigSep (Finset.Ico s (s + n)) (dealt c))
      ⊢ (iprop(stepToks c n s ∗ cred (tallyAt (cell c .bar) 1 2)) : sProp 𝕄) := by
  induction n generalizing s with
  | zero =>
    have hb := cred_B (F := F) c 1
    unfold oweS stepToks
    iintro ⟨H, -, -⟩
    isplitr; · iempintro
    iapply hb; iexact H
  | succ n ih =>
    have hi : Finset.Ico s (s + (n + 1)) = insert s (Finset.Ico (s + 1) (s + 1 + n)) := by
      ext x; simp only [Finset.mem_Ico, Finset.mem_insert]; omega
    have hn : s ∉ Finset.Ico (s + 1) (s + 1 + n) := by simp
    have h2 := ih (s + 1) (by omega)
    have hR0 := cred_R (F := F) c 0 s
    have hR1 := cred_R (F := F) c 1 s
    have hC0 := cred_C (F := F) c 0 s (by omega)
    have hC1 := cred_C (F := F) c 1 s (by omega)
    have he : (bigSep (insert s (Finset.Ico (s + 1) (s + 1 + n))) (dealt c) : sProp 𝕄)
        = iprop(dealt c s ∗ bigSep (Finset.Ico (s + 1) (s + 1 + n)) (dealt c)) := BI.bigSep_insert hn
    unfold oweS stepToks stepTok
    rw [hi, he, launchCred_add, launchCred_add, launchCred_add, launchCred_add]
    unfold dealt
    unfold owing
    unfold owing at h2 hC0 hC1
    rw [if_pos (show s ≤ 61 by omega)]
    rw [if_pos (show s ≤ 61 by omega)]
    iintro ⟨⟨⟨⟨⟨HS, H1⟩, H0⟩, Hc1⟩, Hc0⟩, ⟨Ht0, Ht1⟩, ⟨⟨Hg0, Hs0⟩, Hg1, Hs1⟩, Hrest⟩
    ihave H0 := hR0 $$ H0
    ihave H1 := hR1 $$ H1
    ihave Hc0 := hC0 $$ Hc0
    ihave Hc1 := hC1 $$ Hc1
    ihave H := h2 $$ [HS Hc0 Hc1 Hrest]
    · isplitl [HS]; · iexact HS
      isplitl [Hc0 Hc1]
      · isplitl [Hc0] <;> iassumption
      iexact Hrest
    icases H with ⟨HT, HB⟩
    isplitr [HB]
    · isplitr [HT]
      · isplitl [Hg0 Ht0 Hs0 H0]
        · isplitl [Hg0]; · iexact Hg0
          isplitl [Ht0]; · iexact Ht0
          isplitl [Hs0] <;> iassumption
        isplitl [Hg1]; · iexact Hg1
        isplitl [Ht1]; · iexact Ht1
        isplitl [Hs1] <;> iassumption
      iexact HT
    iexact HB

/-! ## The tokens of the rounds -/

/-- Which token: the device that pays, the step, the direction, and what it is for. -/
abbrev Tok : Type := Dev nD × ℕ × Fin 2 × Fin 4

/-- The device a duty is paid to, and the kind of its cell; -/
def payee : Tok → Dev nD × Kind
  | (c, s, d, 0) => (c, .snd d (par s))
  | (c, s, d, 1) => (fwd d c, .rcv d (par s))
  | (c, _, d, 2) => (bwd d c, .crd d)
  | (c, _, d, 3) => (bwd d c, .bar)
/-- its round and which of the round's duties it is. -/
def which : Tok → ℕ × ℕ
  | (_, s, _, 0) => (s / 2, 0)
  | (_, s, _, 1) => (s / 2, 0)
  | (_, s, _, 2) => (if s = 0 then 1 else 0, s - 1)
  | (_, s, d, 3) => (s, d.val)

def tokOf (x : Tok) : GSem nD τ sig × ℕ × ℕ := (cell (payee x).1 (payee x).2, which x)

theorem par_half {s s' : ℕ} (h : par s = par s') (h' : s / 2 = s' / 2) : s = s' := by
  have h1 : s % 2 = s' % 2 := congrArg Fin.val h
  omega

theorem fwd_injective (d : Fin 2) : Function.Injective (fwd d) := Function.LeftInverse.injective (bwd_fwd d)
theorem bwd_injective (d : Fin 2) : Function.Injective (bwd d) := Function.LeftInverse.injective (fwd_bwd d)

theorem tokOf_injective : Function.Injective tokOf := by
  intro x x' h
  have hc := cell_inj (show cell (payee x).1 (payee x).2 = cell (payee x').1 (payee x').2 from congrArg Prod.fst h)
  have hw : which x = which x' := congrArg Prod.snd h
  have hp : payee x = payee x' := Prod.ext hc.1 hc.2
  clear h hc
  obtain ⟨c, s, d, q⟩ := x
  obtain ⟨c', s', d', q'⟩ := x'
  match q, q' with
  | 0, 0 =>
    injection hp with h1 h2; injection h2 with h3 h4; injection hw with h5 h6
    subst h1 h3; rw [par_half h4 h5]
  | 1, 1 =>
    injection hp with h1 h2; injection h2 with h3 h4; injection hw with h5 h6
    subst h3; rw [par_half h4 h5, fwd_injective d h1]
  | 2, 2 =>
    injection hp with h1 h2; injection h2 with h3; injection hw with h5 h6
    subst h3; rw [bwd_injective d h1, show s = s' by split at h5 <;> split at h5 <;> omega]
  | 3, 3 =>
    injection hp with h1 h2; injection hw with h5 h6
    have h3 : d = d' := Fin.ext h6
    subst h3 h5; rw [bwd_injective d h1]
  | 0, 1 | 0, 2 | 0, 3 | 1, 0 | 1, 2 | 1, 3 | 2, 0 | 2, 1 | 2, 3 | 3, 0 | 3, 1 | 3, 2 =>
    injection hp with h1 h2; cases h2

/-! ## The ghost state at the launch -/

theorem bigSep_pairs {α β : Type} [DecidableEq α] [DecidableEq β] (s : Finset α) (t : Finset β) (Φ : α × β → sProp 𝕄) :
    bigSep (s ×ˢ t) Φ = bigSep s fun a => bigSep t fun b => Φ (a, b) := by
  induction s using Finset.induction_on with
  | empty => rw [Finset.empty_product, bigSep_empty, bigSep_empty]
  | insert a s ha ih =>
    have hd : Disjoint ({a} ×ˢ t) (s ×ˢ t) := Finset.disjoint_product.mpr (Or.inl (Finset.disjoint_singleton_left.mpr ha))
    rw [Finset.insert_eq, Finset.union_product, bigSep_union hd, ih, ← Finset.insert_eq, BI.bigSep_insert ha, Finset.singleton_product, bigSep_map]
    rfl

/-- Every cell there is. -/
def ringCells : Finset (GSem nD τ sig) := Finset.univ.map ⟨fun x : Dev nD × Kind => cell x.1 x.2, cell_injective⟩

/-- The payers, their steps, the directions. -/
abbrev duties : Finset (Dev nD × ℕ × Fin 2) := Finset.univ ×ˢ (Finset.range 62 ×ˢ Finset.univ)

def ringToks : Finset (GSem nD τ sig × ℕ × ℕ) :=
  (Finset.univ ×ˢ (Finset.range 62 ×ˢ Finset.univ) : Finset Tok).map ⟨tokOf, tokOf_injective⟩

def u₀ (P : UR sig nD τ) : UU := (P, (initOf ringCells ringToks, initSlots Finset.univ 31))

/-- The duty tokens a device has at a step, in a direction. -/
def toks (c : Dev nD) (s : ℕ) (d : Fin 2) : sProp 𝕄 :=
  iprop(dutyTok ER (cell c (.snd d (par s))) (s / 2) 0 ∗ dutyTok ER (cell (fwd d c) (.rcv d (par s))) (s / 2) 0
    ∗ dutyTok ER (cell (bwd d c) (.crd d)) (if s = 0 then 1 else 0) (s - 1) ∗ dutyTok ER (cell (bwd d c) .bar) s d.val)

theorem bigSep_toks (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem ringToks_eq : bigSep ringToks (fun x => (dutyTok ER x.1 x.2.1 x.2.2 : sProp 𝕄))
    = bigSep Finset.univ fun c : Dev nD => bigSep (Finset.range 62) fun s => iprop(toks c s 0 ∗ toks c s 1) := by
  unfold ringToks
  rw [bigSep_map, bigSep_pairs]
  refine bigSep_congr fun c _ => ?_
  rw [bigSep_pairs]
  refine bigSep_congr fun s _ => ?_
  rw [bigSep_univ_prod, bigSep_fin2, bigSep_toks, bigSep_toks]
  rfl

/-! ## The slots' write tokens -/

/-- The slot a step's transfer writes and which of its writes that is. -/
def slotOf (x : Dev nD × ℕ × Fin 2) : Key × ℕ := ((fwd x.2.2 x.1, x.2.2, par x.2.1), x.2.1 / 2)

theorem slotOf_injective : Function.Injective slotOf := by
  rintro ⟨c, s, d⟩ ⟨c', s', d'⟩ h
  injection h with h0 h1
  injection h0 with h2 h3
  injection h3 with h4 h5
  have h4 : d = d' := h4
  subst h4
  have hs : s = s' := par_half h5 h1
  have hc : c = c' := fwd_injective d h2
  rw [hs, hc]

theorem writeToks_eq : bigSep ((Finset.univ : Finset Key) ×ˢ Finset.range 31) (fun x => (writeTok EK x.1 (x.2 + 1) : sProp 𝕄))
    ⊢ bigSep Finset.univ fun c : Dev nD => bigSep (Finset.range 62) fun s =>
        iprop(writeTok EK (fwd 0 c, 0, par s) (s / 2 + 1) ∗ writeTok EK (fwd 1 c, 1, par s) (s / 2 + 1)) := by
  have hs : duties.map ⟨slotOf, slotOf_injective⟩ ⊆ (Finset.univ : Finset Key) ×ˢ Finset.range 31 := by
    intro x hx
    obtain ⟨y, hy, rfl⟩ := Finset.mem_map.mp hx
    have h2 := Finset.mem_range.mp (Finset.mem_product.mp (Finset.mem_product.mp hy).2).1
    refine Finset.mem_product.mpr ⟨Finset.mem_univ _, Finset.mem_range.mpr ?_⟩
    show y.2.1 / 2 < 31
    omega
  have he : (bigSep (duties.map ⟨slotOf, slotOf_injective⟩) fun x => (writeTok EK x.1 (x.2 + 1) : sProp 𝕄))
      = bigSep Finset.univ fun c : Dev nD => bigSep (Finset.range 62) fun s =>
        iprop(writeTok EK (fwd 0 c, 0, par s) (s / 2 + 1) ∗ writeTok EK (fwd 1 c, 1, par s) (s / 2 + 1)) := by
    rw [bigSep_map, bigSep_pairs]
    refine bigSep_congr fun c _ => ?_
    rw [bigSep_pairs]
    refine bigSep_congr fun s _ => ?_
    rw [bigSep_fin2]
    rfl
  rw [← he]
  exact BI.bigSep_subset hs

theorem readers_eq : bigSep (Finset.univ : Finset Key) (fun k => (readerAt EK k 0 : sProp 𝕄))
    = bigSep Finset.univ fun c : Dev nD => iprop(readers c 0 ∗ readers c 1) := by
  rw [bigSep_univ_prod]
  refine bigSep_congr fun c _ => ?_
  rw [bigSep_univ_prod, bigSep_fin2, bigSep_fin2, bigSep_fin2]
  rfl

/-! ## What each device has of it -/

/-- A device's tokens for a meeting. -/
def barTok (i : ℕ) : sProp 𝕄 := iprop(dutyTok ER (cell (lft c) .bar) i 0 ∗ dutyTok ER (cell (rgt c) .bar) i 1)

theorem toks_step (s : ℕ) (d : Fin 2) : iprop(toks c s d ∗ writeTok EK (fwd d c, d, par s) (s / 2 + 1))
    ⊢ (iprop((giveTok c d s ∗ shipTok c d s) ∗ dutyTok ER (cell (bwd d c) .bar) s d.val) : sProp 𝕄) := by
  unfold toks giveTok shipTok
  by_cases h : 1 ≤ s ∧ s ≤ 60
  · rw [if_pos h, if_neg (show s ≠ 0 by omega)]
    iintro ⟨⟨H0, H1, H2, H3⟩, Hw⟩
    isplitr [H3]
    · isplitl [H2]; · iexact H2
      isplitl [H0]; · iexact H0
      isplitl [H1]; · iexact H1
      iexact Hw
    iexact H3
  · rw [if_neg h]
    iintro ⟨⟨H0, H1, -, H3⟩, Hw⟩
    isplitr [H3]
    · isplitr; · iempintro
      isplitl [H0]; · iexact H0
      isplitl [H1]; · iexact H1
      iexact Hw
    iexact H3

theorem toks_dealt : iprop((bigSep (Finset.range 62) fun s => iprop(toks c s 0 ∗ toks c s 1))
      ∗ bigSep (Finset.range 62) fun s => iprop(writeTok EK (fwd 0 c, 0, par s) (s / 2 + 1) ∗ writeTok EK (fwd 1 c, 1, par s) (s / 2 + 1)))
    ⊢ (iprop((barTok c 0 ∗ barTok c 1) ∗ bigSep (Finset.range 62) (dealt c)) : sProp 𝕄) := by
  have h1 (s : ℕ) : iprop((toks c s 0 ∗ toks c s 1) ∗ writeTok EK (fwd 0 c, 0, par s) (s / 2 + 1) ∗ writeTok EK (fwd 1 c, 1, par s) (s / 2 + 1))
      ⊢ (iprop(barTok c s ∗ dealt c s) : sProp 𝕄) := by
    have h0 := toks_step (F := F) c s 0
    have h1 := toks_step (F := F) c s 1
    iintro ⟨⟨H0, H1⟩, W0, W1⟩
    ihave H0 := h0 $$ [H0 W0]
    · isplitl [H0] <;> iassumption
    ihave H1 := h1 $$ [H1 W1]
    · isplitl [H1] <;> iassumption
    icases H0 with ⟨H0, B0⟩
    icases H1 with ⟨H1, B1⟩
    isplitl [B0 B1]
    · unfold barTok; isplitl [B0]; · iexact B0
      iexact B1
    unfold dealt; isplitl [H0] <;> iassumption
  have h2 : bigSep (Finset.range 62) (barTok c) ⊢ (iprop(barTok c 0 ∗ barTok c 1) : sProp 𝕄) := by
    have hs : ({0, 1} : Finset ℕ) ⊆ Finset.range 62 := by decide
    have he : bigSep ({0, 1} : Finset ℕ) (barTok c) = (iprop(barTok c 0 ∗ barTok c 1) : sProp 𝕄) := by
      have e := BI.bigSep_insert (Φ := (barTok c : ℕ → sProp 𝕄)) (show 0 ∉ ({1} : Finset ℕ) by decide)
      rw [bigSep_singleton] at e
      exact e
    rw [← he]
    exact BI.bigSep_subset hs
  rw [← bigSep_sep']
  have h3 : (bigSep (Finset.range 62) fun s => iprop((toks c s 0 ∗ toks c s 1) ∗ writeTok EK (fwd 0 c, 0, par s) (s / 2 + 1) ∗ writeTok EK (fwd 1 c, 1, par s) (s / 2 + 1)))
      ⊢ (bigSep (Finset.range 62) fun s => iprop(barTok c s ∗ dealt c s) : sProp 𝕄) := bigSep_mono fun s _ => h1 s
  refine h3.trans ?_
  rw [bigSep_sep']
  exact BI.sep_mono h2 (Entails.refl _)

/-- The kinds one by one. -/
theorem bigSep_kinds (Φ : Kind → sProp 𝕄) : bigSep Finset.univ Φ
    = iprop(Φ .bar ∗ Φ (.snd 0 0) ∗ Φ (.snd 0 1) ∗ Φ (.rcv 0 0) ∗ Φ (.rcv 0 1) ∗ Φ (.snd 1 0) ∗ Φ (.snd 1 1) ∗ Φ (.rcv 1 0) ∗ Φ (.rcv 1 1)
        ∗ Φ (.crd 0) ∗ Φ (.crd 1)) :=
  bigSep_univ_eq_bigSepL ([.bar, .snd 0 0, .snd 0 1, .rcv 0 0, .rcv 0 1, .snd 1 0, .snd 1 1, .rcv 1 0, .rcv 1 1, .crd 0, .crd 1] : List Kind)
    (by decide) (by decide) Φ

/-- What a device holds of the ghost state. -/
def held : sProp 𝕄 :=
  iprop(((heads c 0 ∗ readers c 0) ∗ (heads c 1 ∗ readers c 1)) ∗ atPos ER (cell c .bar) 0 ∅ 0
    ∗ (barTok c 0 ∗ barTok c 1) ∗ bigSep (Finset.range 62) (dealt c))

theorem held_intro : iprop((bigSep Finset.univ fun k : Kind => atPos ER (cell c k) 0 ∅ 0) ∗ (readers c 0 ∗ readers c 1)
      ∗ (bigSep (Finset.range 62) fun s => iprop(toks c s 0 ∗ toks c s 1))
      ∗ bigSep (Finset.range 62) fun s => iprop(writeTok EK (fwd 0 c, 0, par s) (s / 2 + 1) ∗ writeTok EK (fwd 1 c, 1, par s) (s / 2 + 1)))
    ⊢ (held c : sProp 𝕄) := by
  have h := toks_dealt (F := F) c
  rw [bigSep_kinds]
  unfold held heads
  iintro ⟨⟨Hb, S00, S01, R00, R01, S10, S11, R10, R11, C0, C1⟩, ⟨D0, D1⟩, HT⟩
  isplitr [Hb HT]
  · isplitl [S00 S01 R00 R01 C0 D0]
    · isplitr [D0]
      · isplitl [S00 S01]
        · isplitl [S00] <;> iassumption
        isplitl [R00 R01]
        · isplitl [R00] <;> iassumption
        iexact C0
      iexact D0
    isplitr [D1]
    · isplitl [S10 S11]
      · isplitl [S10] <;> iassumption
      isplitl [R10 R11]
      · isplitl [R10] <;> iassumption
      iexact C1
    iexact D1
  isplitl [Hb]; · iexact Hb
  iapply h; iexact HT

end RingQ
-- ==== Proof.Deal.lean ====
module

public import proofs.«01_k».proof.Proof.Start

@[expose] public section

/-!
# The launch's global step
-/

noncomputable section

namespace RingQ

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Ring (bigSep_fin2 slots2_split slots2_join)
open Cert.Kernel Cert.Kernel.Gen

variable {F : FTy → Type} [FloatOps F]

local notation "𝕄" => MT nD τ sig ℕ (Elt F) ℕ UU ℕ

variable (V : Sent F) (c : Dev nD)

/-- The receive slots' invariants. -/
def slotsInv (K' : Key → ℕ) : sProp 𝕄 := bigSep Finset.univ fun k : Key => slotInv EK (K' k) k (slotAny (rcvM k.2.1) k.2.2 k.1)

instance slotsInv_persistent (K' : Key → ℕ) : BI.Persistent (slotsInv (F := F) K') := by unfold slotsInv; infer_instance

/-- What the launch gives device `c`. -/
def G (c : Dev nD) : sProp 𝕄 :=
  iprop((∃ K', slotsInv K') ∗ (bigSep Finset.univ fun k : Kind => roundState ER (Rd V) (cell c k) 0)
    ∗ (bigSep Finset.univ fun k : Kind => reached ER (cell c k) 0) ∗ held c)

theorem cells_eq (Φ : GSem nD τ sig → sProp 𝕄) :
    bigSep ringCells Φ = bigSep Finset.univ fun c : Dev nD => bigSep Finset.univ fun k : Kind => Φ (cell c k) := by
  unfold ringCells; rw [bigSep_map, bigSep_univ_prod]; rfl

theorem fund_ring : iprop(BI.own (ER (initOf ringCells ringToks)) ∗ BI.own (EK (initSlots Finset.univ 31)))
    ⊢ (|={Set.univ}=> bigSep Finset.univ (G V) : sProp 𝕄) := by
  have hs := slots_init (Es := Set.univ) (EK (F := F)) (Finset.univ : Finset Key) 31 (fun k => slotAny (rcvM k.2.1) k.2.2 k.1)
  iintro ⟨HX, HS⟩
  imod (Rounds.fund ER (Rd V) ringCells ringToks) $$ HX with ⟨Hst, Hr, Hat, Htok⟩
  imod hs $$ HS with ⟨%K', -, #HI, Hrd, Hwr⟩
  imodintro
  ihave Hst := (Entails.of_eq (cells_eq fun g => roundState ER (Rd V) g 0)) $$ Hst
  ihave Hat := (Entails.of_eq (cells_eq fun g => atPos ER g 0 ∅ 0)) $$ Hat
  ihave Hr := (Entails.of_eq (cells_eq fun g => reached ER g 0)) $$ Hr
  ihave Htok := (Entails.of_eq ringToks_eq) $$ Htok
  ihave Hwr := writeToks_eq $$ Hwr
  ihave Hrd := (Entails.of_eq readers_eq) $$ Hrd
  have hI : slotsInv K' ⊢ (bigSep Finset.univ fun _ : Dev nD => iprop(∃ K', slotsInv K') : sProp 𝕄) :=
    BI.bigSep_intro_persistent fun _ _ => by
      iintro H; iexists K'; iexact H
  have hh : iprop((bigSep Finset.univ fun c : Dev nD => bigSep Finset.univ fun k : Kind => atPos ER (cell c k) 0 ∅ 0)
        ∗ (bigSep Finset.univ fun c : Dev nD => iprop(readers c 0 ∗ readers c 1))
        ∗ (bigSep Finset.univ fun c : Dev nD => bigSep (Finset.range 62) fun s => iprop(toks c s 0 ∗ toks c s 1))
        ∗ bigSep Finset.univ fun c : Dev nD => bigSep (Finset.range 62) fun s =>
            iprop(writeTok EK (fwd 0 c, 0, par s) (s / 2 + 1) ∗ writeTok EK (fwd 1 c, 1, par s) (s / 2 + 1)))
      ⊢ (bigSep Finset.univ held : sProp 𝕄) := by
    rw [← bigSep_sep', ← bigSep_sep', ← bigSep_sep']
    exact bigSep_mono fun c _ => held_intro c
  have hG : iprop((bigSep Finset.univ fun _ : Dev nD => iprop(∃ K', slotsInv K'))
        ∗ (bigSep Finset.univ fun c : Dev nD => bigSep Finset.univ fun k : Kind => roundState ER (Rd V) (cell c k) 0)
        ∗ (bigSep Finset.univ fun c : Dev nD => bigSep Finset.univ fun k : Kind => reached ER (cell c k) 0) ∗ bigSep Finset.univ held)
      ⊢ (bigSep Finset.univ (G V) : sProp 𝕄) := by
    rw [← bigSep_sep', ← bigSep_sep', ← bigSep_sep']
    exact bigSep_mono fun c _ => Entails.refl (G V c)
  iapply hG
  isplitr
  · iapply hI; unfold slotsInv; iexact HI
  isplitl [Hst]; · iexact Hst
  isplitl [Hr]; · iexact Hr
  iapply hh
  isplitl [Hat]; · iexact Hat
  isplitl [Hrd]; · iexact Hrd
  isplitl [Htok] <;> iassumption

/-! ## The semaphores -/

/-- The kernel's own semaphores. -/
def osem : Fin 10 → SemLoc sig
  | 0 => semOf (.snd 0 0)
  | 1 => semOf (.snd 0 1)
  | 2 => semOf (.rcv 0 0)
  | 3 => semOf (.rcv 0 1)
  | 4 => semOf (.snd 1 0)
  | 5 => semOf (.snd 1 1)
  | 6 => semOf (.rcv 1 0)
  | 7 => semOf (.rcv 1 1)
  | 8 => semOf (.crd 0)
  | 9 => semOf (.crd 1)

theorem ownSemFacts : Pipeline.OwnSemFacts cfg0.spec osem := by decide

theorem ownSems0_eq : (Pipeline.ownSems0 (Ix := ℕ) (Name := ℕ) (U := UU) (Lvl := ℕ) (Val := Elt F) (τ := τ) osem c : sProp 𝕄)
    = iprop(semVal (cell c (.snd 0 0)) 0 ∗ semVal (cell c (.snd 0 1)) 0 ∗ semVal (cell c (.rcv 0 0)) 0 ∗ semVal (cell c (.rcv 0 1)) 0
      ∗ semVal (cell c (.snd 1 0)) 0 ∗ semVal (cell c (.snd 1 1)) 0 ∗ semVal (cell c (.rcv 1 0)) 0 ∗ semVal (cell c (.rcv 1 1)) 0
      ∗ semVal (cell c (.crd 0)) 0 ∗ semVal (cell c (.crd 1)) 0) := by
  rw [Pipeline.ownSems0_eq_of_list c osem [0, 1, 2, 3, 4, 5, 6, 7, 8, 9] (by decide) (by decide)]; rfl

theorem unscopedSems0_eq : (unscopedSems0 c : sProp 𝕄) = semVal (cell c .bar) 0 := by
  unfold unscopedSems0; rw [bigSep_eq_bigSepL_of_eq [semOf .bar] (by decide) (by decide)]; rfl

theorem sems0_eq :
    iprop(Pipeline.ownSems0 (Ix := ℕ) (Name := ℕ) (U := UU) (Lvl := ℕ) (Val := Elt F) (τ := τ) osem c ∗ unscopedSems0 c)
      ⊢ (bigSep Finset.univ fun k : Kind => semVal (cell c k) 0 : sProp 𝕄) := by
  rw [ownSems0_eq, unscopedSems0_eq, bigSep_kinds]
  iintro ⟨H, HB⟩
  isplitl [HB]; · iexact HB
  iexact H

/-! ## The global step -/

/-- A device's invariants opened. -/
theorem core_alloc :
    iprop(Pipeline.ownSems0 (Ix := ℕ) (Name := ℕ) (U := UU) (Lvl := ℕ) (Val := Elt F) (τ := τ) osem c ∗ unscopedSems0 c ∗ G V c)
      ⊢ |={Set.univ}=> iprop((bigSep Finset.univ fun k : Kind => iprop(∃ κ : ℕ, cellInv ER (Rd V) κ (cell c k)))
          ∗ (bigSep Finset.univ fun k : Kind => reached ER (cell c k) 0) ∗ (∃ K', slotsInv K') ∗ held c) := by
  have hv := sems0_eq (F := F) c
  have ha : iprop((bigSep Finset.univ fun k : Kind => semVal (cell c k) 0) ∗ bigSep Finset.univ fun k : Kind => roundState ER (Rd V) (cell c k) 0)
      ⊢ (|={Set.univ}=> bigSep Finset.univ fun k : Kind => iprop(∃ κ : ℕ, cellInv ER (Rd V) κ (cell c k)) : sProp 𝕄) := by
    rw [← bigSep_sep']
    exact (bigSep_mono fun k _ => (Rounds.body_intro ER (Rd V) (cell c k)).trans inv_alloc).trans (bigSep_fupd _ _)
  unfold G
  iintro ⟨Ho, Hu, HK, Hst, Hr, Hh⟩
  ihave Hv := hv $$ [Ho Hu]
  · isplitl [Ho] <;> iassumption
  imod ha $$ [Hv Hst] with Hinv
  · isplitl [Hv] <;> iassumption
  imodintro
  isplitl [Hinv]; · iexact Hinv
  isplitl [Hr]; · iexact Hr
  isplitl [HK] <;> iassumption

/-- The invariants of the machine's cells, and where its rounds begin. -/
def records (K : Dev nD × Kind → ℕ) : sProp 𝕄 :=
  iprop((bigSep Finset.univ fun x : Dev nD × Kind => cellInv ER (Rd V) (K x) (cell x.1 x.2))
    ∗ bigSep Finset.univ fun x : Dev nD × Kind => reached ER (cell x.1 x.2) 0)

instance records_persistent (K : Dev nD × Kind → ℕ) : BI.Persistent (records V K) := by unfold records; infer_instance

/-- What the global step gives device `c`. -/
def G' (c : Dev nD) : sProp 𝕄 := iprop((∃ K, records V K) ∗ (∃ K', slotsInv K') ∗ held c)

theorem glob : (bigSep Finset.univ fun c => iprop(Pipeline.ownSems0 (Ix := ℕ) (Name := ℕ) (U := UU) (Lvl := ℕ) (Val := Elt F) (τ := τ) osem c
      ∗ unscopedSems0 c ∗ G V c) : sProp 𝕄) ⊢ |={Set.univ}=> bigSep Finset.univ (G' V) := by
  have hK := BI.bigSep_exists_pi Finset.univ (fun (x : Dev nD × Kind) (κ : ℕ) => (cellInv ER (Rd V) κ (cell x.1 x.2) : sProp 𝕄))
  have hR (K : Dev nD × Kind → ℕ) : records V K ⊢ (bigSep Finset.univ fun _ : Dev nD => iprop(∃ K, records V K) : sProp 𝕄) :=
    BI.bigSep_intro_persistent fun _ _ => by
      iintro H; iexists K; iexact H
  have hI : (bigSep Finset.univ fun c : Dev nD => iprop((bigSep Finset.univ fun k : Kind => iprop(∃ κ : ℕ, cellInv ER (Rd V) κ (cell c k)))
          ∗ (bigSep Finset.univ fun k : Kind => reached ER (cell c k) 0) ∗ (∃ K', slotsInv K') ∗ held c) : sProp 𝕄)
      ⊢ bigSep Finset.univ (G' V) := by
    unfold G'
    rw [bigSep_sep', bigSep_sep', bigSep_sep', bigSep_sep', bigSep_sep', ← bigSep_univ_prod (fun x : Dev nD × Kind => iprop(∃ κ : ℕ, cellInv ER (Rd V) κ (cell x.1 x.2))),
      ← bigSep_univ_prod (fun x : Dev nD × Kind => (reached ER (cell x.1 x.2) 0 : sProp 𝕄))]
    iintro ⟨HI, Hr, HK, Hh⟩
    ihave HI := hK $$ HI
    icases HI with ⟨%K, HI⟩
    isplitr [HK Hh]
    · iapply (hR K)
      unfold records
      isplitl [HI] <;> iassumption
    isplitl [HK] <;> iassumption
  refine ((bigSep_mono fun c _ => core_alloc V c).trans (bigSep_fupd _ _)).trans (show (iprop(|={Set.univ}=> _) : sProp 𝕄) ⊢ _ from ?_)
  iintro H
  imod H
  imodintro
  iapply hI
  iexact H

/-- A device at the start. -/
def start (c : Dev nD) : sProp 𝕄 :=
  iprop((∃ K K', ctx V K K') ∗ ((heads c 0 ∗ readers c 0) ∗ (heads c 1 ∗ readers c 1)) ∗ atPos ER (cell c .bar) 0 ∅ 0
    ∗ (meetTok c 0 ∗ meetTok c 1) ∗ stepToks c 62 0)

theorem start_intro (P R : sProp 𝕄) :
    iprop(P ∗ levAts L lv ∗ Pipeline.launchCred O₀ c ∗ R ∗ G' V c) ⊢ |={Set.univ}=> iprop(start V c ∗ emp) := by
  have hS := cred_S (F := F) c 62 0 rfl
  have hB := cred_B (F := F) c 0
  have hO : (Pipeline.launchCred O₀ c : sProp 𝕄) = iprop(Pipeline.launchCred (fun e => oweS e 62 0) c ∗ Pipeline.launchCred (fun e => oweB e 0) c) := by
    unfold O₀; exact Pipeline.launchCred_add _ _ c
  have h0 (d : Fin 2) : iprop(emp) ⊢ (owing c d 0 : sProp 𝕄) := by
    unfold owing takeTok
    rw [if_pos (show 0 ≤ 61 by decide), if_neg (show ¬ 2 ≤ 0 by decide)]
  unfold G' held barTok
  rw [hO]
  iintro ⟨-, Hlev, ⟨HcS, HcB⟩, -, ⟨%K, HK⟩, ⟨%K', HK'⟩, Hdir, Hat, ⟨⟨Ha0, Ha1⟩, Hb0, Hb1⟩, Hd⟩
  ihave HcB := hB $$ HcB
  ihave H := hS $$ [HcS Hd]
  · isplitl [HcS]; · iexact HcS
    isplitr
    · isplitr
      · iapply (h0 0); iempintro
      iapply (h0 1); iempintro
    rw [← Finset.range_eq_Ico]
    iexact Hd
  icases H with ⟨HT, HcB1⟩
  imodintro
  isplitl
  · unfold start
    isplitl [HK HK' Hlev]
    · iexists K, K'
      unfold ctx records slotsInv
      icases HK with ⟨HI, HR⟩
      isplitl [HI]; · iexact HI
      isplitl [HK']; · iexact HK'
      isplitl [HR] <;> iassumption
    isplitl [Hdir]; · iexact Hdir
    isplitl [Hat]; · iexact Hat
    isplitl [Ha0 Ha1 Hb0 Hb1 HcB HcB1]
    · unfold meetTok
      isplitl [Ha0 Ha1 HcB]
      · isplitl [Ha0]; · iexact Ha0
        isplitl [Ha1] <;> iassumption
      isplitl [Hb0]; · iexact Hb0
      isplitl [Hb1] <;> iassumption
    iexact HT
  · iempintro

/-! ## The buffers -/

section Slots

variable (b : Memref sig .tc .vmem S2x128x1024 .f32) (hb : b.view.set = Finset.univ)

theorem slotM_set (p : Fin 2) : (slotM b p).view.set = (slotR p).set.map b.view.emb :=
  (View.set_reshape _ _).trans (View.set_slice _ _)

/-- A slot's elements among the buffer's. -/
abbrev slotJ (p : Fin 2) : Finset b.view.ty.Idx := (slotR p).set.map b.view.emb

theorem slots_disjoint (p p' : Fin 2) (h : p ≠ p') : Disjoint (slotJ b p) (slotJ b p') := by
  rw [Finset.disjoint_map]
  exact Ring.lead_disjoint (s := S2x128x1024) (0 : Fin 3) 1 (fun p : Fin 2 => (![p.val, 0, 0] : Fin 3 → Nat)) S1x128x1024.size inbSlot
    (fun p => by simp) rfl p p' h

include hb in
theorem slots_cover : Finset.univ.biUnion (slotJ b) = Finset.univ := by
  have h := Ring.lead_cover (s := S2x128x1024) (0 : Fin 3) 1 (fun p : Fin 2 => (![p.val, 0, 0] : Fin 3 → Nat)) S1x128x1024.size inbSlot
    (fun p => by simp) (fun p a ha => by fin_cases a <;> first | exact absurd rfl ha | rfl) rfl
    (fun a ha => by fin_cases a <;> first | exact absurd rfl ha | rfl) rfl
  rw [← hb]
  ext i
  rw [Finset.mem_biUnion]
  constructor
  · rintro ⟨p, -, hp⟩
    obtain ⟨x, -, rfl⟩ := Finset.mem_map.mp hp
    exact hb ▸ Finset.mem_univ _
  · intro hi
    obtain ⟨x, -, hx⟩ := Finset.mem_map.mp hi
    have hx' : x ∈ Finset.univ.biUnion fun p : Fin 2 => (slotR p).set := h ▸ Finset.mem_univ x
    obtain ⟨p, hp, hpx⟩ := Finset.mem_biUnion.mp hx'
    exact ⟨p, hp, Finset.mem_map.mpr ⟨x, hpx, hx⟩⟩

theorem slotPts_eq (p : Fin 2) (f : Buf (Elt F) (b.view.loc (c : Thread nD τ))) :
    (slotPts b p c f : sProp 𝕄) = (b.view.loc (c : Thread nD τ) ↦[slotJ b p]{fullShare} f) := by
  unfold slotPts; rw [slotM_set]

include hb in
theorem slots_in : iprop(∃ f, b.view.loc (c : Thread nD τ) ↦{fullShare} f) ⊢ (iprop(slotAny b 0 c ∗ slotAny b 1 c) : sProp 𝕄) :=
  slots2_split (U := UU) (ℓ := b.view.loc (c : Thread nD τ)) (q := fullShare) (slotJ b) (slots_disjoint b) (slots_cover b hb)
    (slotPts b 0 c) (slotPts b 1 c) (slotPts_eq c b 0) (slotPts_eq c b 1)

include hb in
theorem slots_out : (iprop(slotAny b 0 c ∗ slotAny b 1 c) : sProp 𝕄) ⊢ iprop(∃ f, b.view.loc (c : Thread nD τ) ↦{fullShare} f) :=
  slots2_join (U := UU) (ℓ := b.view.loc (c : Thread nD τ)) (q := fullShare) (slotJ b) (slots_disjoint b) (slots_cover b hb)
    (slotPts b 0 c) (slotPts b 1 c) (slotPts_eq c b 0) (slotPts_eq c b 1)

end Slots

theorem bufs_in : (Pipeline.scopedRest (Ix := ℕ) (Name := ℕ) (U := UU) (Lvl := ℕ) (Val := Elt F) spec0 c : sProp 𝕄) ⊢ iprop(bufs c 0 ∗ bufs c 1) := by
  have h0 := slots_in (F := F) c (sndM 0) (View.set_whole _)
  have h1 := slots_in (F := F) c (rcvM 0) (View.set_whole _)
  have h2 := slots_in (F := F) c (sndM 1) (View.set_whole _)
  have h3 := slots_in (F := F) c (rcvM 1) (View.set_whole _)
  rw [scopedRest0_eq]
  unfold bufs
  iintro ⟨H0, H1, H2, H3⟩
  isplitl [H0 H1]
  · isplitl [H0]
    · iapply h0; iexact H0
    iapply h1; iexact H1
  isplitl [H2]
  · iapply h2; iexact H2
  iapply h3; iexact H3

theorem bufs_out : iprop(bufs c 0 ∗ bufs c 1) ⊢ (Pipeline.scopedRest (Ix := ℕ) (Name := ℕ) (U := UU) (Lvl := ℕ) (Val := Elt F) spec0 c : sProp 𝕄) := by
  have h0 := slots_out (F := F) c (sndM 0) (View.set_whole _)
  have h1 := slots_out (F := F) c (rcvM 0) (View.set_whole _)
  have h2 := slots_out (F := F) c (sndM 1) (View.set_whole _)
  have h3 := slots_out (F := F) c (rcvM 1) (View.set_whole _)
  rw [scopedRest0_eq]
  unfold bufs
  iintro ⟨⟨H0, H1⟩, H2, H3⟩
  ihave H0 := h0 $$ H0
  ihave H1 := h1 $$ H1
  ihave H2 := h2 $$ H2
  ihave H3 := h3 $$ H3
  isplitl [H0]; · iexact H0
  isplitl [H1]; · iexact H1
  isplitl [H2]; · iexact H2
  iexact H3

end RingQ
-- ==== Proof.BodyEq.lean ====
module

public import proofs.«01_k».proof.Proof.Body

@[expose] public section

/-!
# The printed body is the loop run out
-/

noncomputable section

namespace RingQ

open Idealize.ShloMosaic Idealize.SL.Sem
open Cert.Kernel Cert.Kernel.Gen

variable {F : FTy → Type} [FloatOps F]

theorem body_eq (arg0 : Memref sig .tc .vmem S4096x128 .f32) (harg0 : arg0.IsWhole) (arg1 : Memref sig .tc .vmem S128x2048 .f32) (harg1 : arg1.IsWhole) (arg2 : Memref sig .tc .vmem S4096x2048 .f32) (harg2 : arg2.IsWhole)
    (arg3 : Memref sig .tc .vmem S2x128x1024 .f32) (harg3 : arg3.IsWhole) (arg4 : Memref sig .tc .vmem S2x128x1024 .f32) (harg4 : arg4.IsWhole)
    (arg5 : Memref sig .tc .vmem S2x128x1024 .f32) (harg5 : arg5.IsWhole) (arg6 : Memref sig .tc .vmem S2x128x1024 .f32) (harg6 : arg6.IsWhole)
    (arg7 arg8 arg9 arg10 : DmaSems sig S2) (arg11 : Sems sig S2) :
    body (F := F) arg0 arg1 arg2 (dirR arg3 arg4 arg7 arg8 arg11) (dirL arg5 arg6 arg9 arg10 arg11)
      = cc0_body (F := F) arg0 harg0 arg1 harg1 arg2 harg2 arg3 harg3 arg4 harg4 arg5 harg5 arg6 harg6 arg7 arg8 arg9 arg10 arg11 := by
  chain_rfl

end RingQ
-- ==== Proof.Run.lean ====
module

public import proofs.«01_k».proof.Proof.Deal
public import proofs.«01_k».proof.Proof.BodyEq
public import Idealize.ShloMosaic.Lib.Quiescent
public import Idealize.ShloMosaic.Lib.Pipeline.CollectiveSegs

@[expose] public section

/-!
# The run

From any memory the kernel terminates with each device's result at the reduced array, its arguments as they were and every
semaphore at zero.
-/

noncomputable section

namespace RingQ

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)
open Cert.Kernel Cert.Kernel.Gen

variable {F : FTy → Type} [FloatOps F]

local notation "𝕄" => MT nD τ sig ℕ (Elt F) ℕ UU ℕ

variable (m : (ℓ : Loc nD τ sig) → Buf (Elt F) ℓ) (ρ : Dev nD → PrngReg)

/-- A device's arguments as the body reads them, -/
def xAt (c : Dev nD) : (cc0_stg0_0 : Ref sig .tc).ty.Contents (Elt F) :=
  (win0_0.blk (0 : Fin 1)).view.read (Elt F) (m ((c : Thread nD τ).loc main_arg0))
def wAt (c : Dev nD) : (cc0_stg1_0 : Ref sig .tc).ty.Contents (Elt F) :=
  (win0_1.blk (0 : Fin 1)).view.read (Elt F) (m ((c : Thread nD τ).loc main_arg1))
/-- the products it forms, -/
def yAt (c : Dev nD) : OutC F := prodO (xAt m c) (wAt m c)

/-- Before the body and after it. -/
def Φ₀ (c : Dev nD) : sProp 𝕄 := iprop(start (VY (yAt m)) c ∗ bufs c 0 ∗ bufs c 1)

def dats (_ : Fin 1) (c : Dev nD) : Dat τ (Elt F) ℕ ℕ UU ℕ cfg0 c where
  A w := m ((cfg0.win w).arr.view.loc (c : Thread nD τ))
  after w _ := match w with
    | ⟨0, _⟩ => xAt m c
    | ⟨1, _⟩ => wAt m c
    | ⟨2, _⟩ => outO (yAt m) c
  Φ t := match t with
    | ⟨0, _⟩ => Φ₀ m c
    | ⟨_ + 1, _⟩ => atEnd c
  q _ := fullShare
  owed t := match t with
    | ⟨0, _⟩ => O₀ c
    | ⟨_ + 1, _⟩ => 0

theorem fetch_0 (t : Fin cfg0.N) : (cfg0.win (0 : Fin 3)).fetch t = true := by rw [fin_N0 t]; rfl
theorem fetch_1 (t : Fin cfg0.N) : (cfg0.win (1 : Fin 3)).fetch t = true := by rw [fin_N0 t]; rfl

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt 0 t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

def bodyPost (c : Dev nD) : sProp 𝕄 :=
  iprop(atEnd c ∗ (dats m 0 c).owesAt 0 t0_0.succ ∗ stg c cc0_stg0_0 (xAt m c) ∗ stg c cc0_stg1_0 (wAt m c)
    ∗ stg c cc0_stg2_0 (outO (yAt m) c))

theorem wp_here (c : Dev nD) (R : Dev nD → sProp 𝕄) : R c ⊢ WP c (Prog.lift .deviceId) R := by
  show R c ⊢ wp frame (wpE (defs₀ (F := F)) 𝒱₀ (c : Thread nD τ) none) Set.univ (.op .deviceId fun a => .ret a) R
  rw [wp_deviceId, wp_ret]
  iintro H; imodintro; iexact H

theorem wp_body (c : Dev nD) (Q : PUnit → sProp 𝕄) :
    WP c (bodyAt xM wM oM (dirOf 0) (dirOf 1) c) Q ⊢ WP c (body xM wM oM (dirOf 0) (dirOf 1)) Q := by
  have h := wp_here c (fun a => WP c (bodyAt xM wM oM (dirOf 0) (dirOf 1) a) Q)
  unfold body
  iintro H
  iapply (wp_do c)
  iapply h
  iexact H

/-- What the pipeline runs is the body. -/
theorem defs_body : defs₀ (F := F) Proc.tc 0 (t0_0, cfg0.slots t0_0) = body (F := F) xM wM oM (dirOf 0) (dirOf 1) := by
  rw [dirOf_zero, dirOf_one, body_eq (harg0 := Memref.isWhole_whole _) (harg1 := Memref.isWhole_whole _) (harg2 := Memref.isWhole_whole _)
    (harg3 := Memref.isWhole_whole _) (harg4 := Memref.isWhole_whole _) (harg5 := Memref.isWhole_whole _) (harg6 := Memref.isWhole_whole _)]
  rfl

theorem body_sound (c : Dev nD) : bodyPre m c ⊢ WP c (body (F := F) xM wM oM (dirOf 0) (dirOf 1)) (fun _ => bodyPost m c) := by
  have hb := wp_body c (fun _ => bodyPost m c)
  have h (K K' f) := wp_bodyAt (yAt m) K K' c (xAt m c) (wAt m c) f rfl (fun _ => bodyPost m c)
  unfold xPts wPts outPts at h
  unfold bodyPre Φ₀ start
  iintro ⟨⟨⟨⟨%K, %K', #Hc⟩, ⟨⟨Hh0, Hr0⟩, Hh1, Hr1⟩, Hat, Hm, Ht⟩, Hb0, Hb1⟩, Ho, ⟨%d0, %g0, %hg0, Hx⟩, ⟨%d1, %g1, %hg1, Hw⟩, ⟨%d2, %g2, %hg2, Hout⟩⟩
  have hx : g0 = xAt m c := by rw [hg0]; unfold Dat.before; rw [if_pos (fetch_0 t0_0)]; rfl
  have hw : g1 = wAt m c := by rw [hg1]; unfold Dat.before; rw [if_pos (fetch_1 t0_0)]; rfl
  subst hx hw
  unfold Dat.owesAt Pipeline.owesWithin
  icases Ho with ⟨%W, %hW, HO⟩
  iapply hb
  iapply (h K K' g2) $$ [Hh0 Hr0 Hh1 Hr1 Hat Hm Ht Hb0 Hb1 HO Hx Hw Hout]
  · isplitr; · iexact Hc
    isplitl [Hh0 Hr0 Hh1 Hr1 Hat Hm Ht Hb0 Hb1]
    · unfold atStart
      isplitl [Hh0 Hr0 Hh1 Hr1 Hb0 Hb1]
      · isplitl [Hh0 Hr0 Hb0]
        · isplitl [Hb0]; · iexact Hb0
          isplitl [Hh0] <;> iassumption
        isplitl [Hb1]; · iexact Hb1
        isplitl [Hh1] <;> iassumption
      isplitl [Hat]; · iexact Hat
      isplitl [Hm] <;> iassumption
    isplitl [HO]; · unfold owe; iexists W; iexact HO
    isplitl [Hx Hw]
    · isplitl [Hx]; · iexact Hx
      iexact Hw
    iexact Hout
  iintro ⟨He, HO, ⟨Hx, Hw⟩, Hout⟩
  unfold owe
  icases HO with ⟨%W', HO⟩
  unfold bodyPost
  isplitl [He]; · iexact He
  isplitl [HO]
  · unfold Dat.owesAt Pipeline.owesWithin
    iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

theorem body_obligation (c : Dev nD) : BodyObligation (dats m 0 c) (defs₀ (F := F)) 𝒱₀ 0 Set.univ := fun t => by
  rw [fin_N0 t]
  rw [bigSep_W0, bigSep_W0]
  simp only [owns_whole_eq]
  rw [defs_body]
  refine BI.Entails.trans (show _ ⊢ bodyPre m c from Entails.refl _) ?_
  have hb := body_sound m c
  revert hb
  generalize body (F := F) xM wM oM (dirOf 0) (dirOf 1) = p
  intro hb
  exact hb

/-! ## The launch -/

theorem share_eq (c : Dev nD) (w : Fin cfg0.W) : (dats m 0 c).share w = fullShare := by unfold Dat.share; split <;> rfl

theorem stage_lv (c : Dev nD) (w : Fin cfg0.W) (s) : lv ((c : Thread nD τ), SemLoc.dma ((cfg0.win w).sem s)) 0 ≤ 0 := by
  have h : ∀ k, SemLoc.dma ((cfg0.win w).sem s) ≠ semOf k := by
    revert s; revert w; decide
  unfold lv
  rw [kindOf_none h]

theorem waits (c : Dev nD) : (levAts L lv : sProp 𝕄) ⊢ Pipeline.cellsWaits cfgs (dats m) 0 0 c :=
  Pipeline.cellsWaits_intro cfgs (dats m) 0 0 c fun w s t =>
    mayOwe_above (b := 0) (by
      rcases t with ⟨_ | _, ht⟩
      · exact above_O₀ c
      · exact above_zero 0) c _ 0 (by decide) (stage_lv c w s)

theorem exit (c : Dev nD) :
    (dats m 0 c).Φ (Fin.last cfg0.N) ⊢ iprop(unscopedSems0 c ∗ Pipeline.ownSems0 osem c ∗ Pipeline.scopedRest cfg0.spec c) := by
  have hb := bufs_out (F := F) c
  rw [show (dats m 0 c).Φ (Fin.last cfg0.N) = atEnd c from rfl, ownSems0_eq, unscopedSems0_eq]
  unfold atEnd zeros
  iintro ⟨Hb, ⟨⟨⟨A0, A1⟩, ⟨A2, A3⟩, A4⟩, ⟨B0, B1⟩, ⟨B2, B3⟩, B4⟩, Hbar⟩
  isplitl [Hbar]; · iexact Hbar
  isplitr [Hb]
  · isplitl [A0]; · iexact A0
    isplitl [A1]; · iexact A1
    isplitl [A2]; · iexact A2
    isplitl [A3]; · iexact A3
    isplitl [B0]; · iexact B0
    isplitl [B1]; · iexact B1
    isplitl [B2]; · iexact B2
    isplitl [B3]; · iexact B3
    isplitl [A4] <;> iassumption
  iapply hb; iexact Hb

/-- What an array holds after the run. -/
def finalA (c : Dev nD) (w : Fin cfg0.W) : Buf (Elt F) ((cfg0.win w).arr.view.loc (c : Thread nD τ)) := (dats m 0 c).arrAt w cfg0.N

theorem fund (P : UR sig nD τ) : (ownU (u₀ P) : sProp 𝕄)
      ⊢ |={Set.univ}=> iprop(BI.own (EP P) ∗ bigSep Finset.univ (G (VY (yAt m)))) := by
  unfold u₀
  iintro Hu
  ihave H := (ownU_pair _ _) $$ Hu
  icases H with ⟨HP, HX⟩
  ihave HX := (own_pair_emb embR _ _) $$ HX
  imod (fund_ring (VY (yAt m))) $$ HX with HG
  imodintro
  isplitl [HP] <;> iassumption

theorem enter (c : Dev nD) (P : sProp 𝕄) : iprop(start (VY (yAt m)) c ∗ P ∗ Pipeline.scopedRest cfg0.spec c) ⊢ (dats m 0 c).Φ 0 := by
  have hb := bufs_in (F := F) c
  rw [show (dats m 0 c).Φ 0 = Φ₀ m c from rfl]
  unfold Φ₀
  iintro ⟨Hs, -, Hr⟩
  isplitl [Hs]; · iexact Hs
  iapply hb; iexact Hr

theorem main_entry (c : Dev nD) : main (F := F) c = .op (.customCall (Pipeline.entry (0 : Fin 1)) ()) fun _ => .ret ⟨⟩ := (main_chain c).trans rfl

set_option maxRecDepth 8000 in
theorem run_main : θ_run defs (onTc (τ := τ) (main (F := F))) ⟨m, fun _ => 0, ρ⟩ (fun r =>
    (∀ c : Dev nD, ∀ w : Fin cfg0.W, r.2.mem ((cfg0.win w).arr.view.loc (c : Thread nD τ)) = finalA m c w) ∧ r.2.sem = fun _ => 0) := by
  refine Pipeline.θ_run_region_owing_glob_pf (fun p => (cfgs p).toPCfg) (fun p => (cfgs p).toPCfg_adm) (dats m) (0 : ℕ) cellOf_inj (0 : Fin 1)
    winFacts0.to₀ ownSemFacts (Pipeline.PreFacts.none _) EP defs₀ 𝒱₀ m ρ main
    (hmain := main_entry)
    (hbody := fun c => (body_obligation m c).loose) (hne := ?_) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (VY (yAt m))) (G' := G' (VY (yAt m))) (u₀ := u₀ _)
    (hu₀ := fund m _)
    (hglob := glob (VY (yAt m)))
    (hA := fun _ _ => rfl) (hpf := fun _ k => k.elim0)
    (X := start (VY (yAt m))) (Y := fun c => unscopedSems0 c) (Z := fun _ => iprop(emp))
    (hX := fun c => start_intro (VY (yAt m)) c _ _)
    (hin := fun c => enter m c _)
    (hout := exit m)
    (QY := fun c s => ∀ sm : SemLoc sig, sm.isScoped .tc = false → s.sem ((c.tc : Thread nD τ), sm) = 0)
    (hY := ?_)
    (hQ := fun _ h hs => ⟨fun c w => (h c).1 w, sem_eq_zero hs fun c => (h c).2.2⟩)
  · exact block_pos0
  · intro c s'
    iintro ⟨Hu, -, HSI⟩
    iapply (Pipeline.unscopedSems0_read (X := unscopedSems0 c) (c := c) fupd_intro s')
    isplitl [Hu] <;> iassumption

/-- The arguments are as they were. -/
theorem finalA_0 (c : Dev nD) : finalA m c (0 : Fin 3) = m ((c : Thread nD τ).loc main_arg0) := (dats m 0 c).arrAt_in (0 : Fin 3) rfl _
theorem finalA_1 (c : Dev nD) : finalA m c (1 : Fin 3) = m ((c : Thread nD τ).loc main_arg1) := (dats m 0 c).arrAt_in (1 : Fin 3) rfl _

end RingQ
-- ==== Proof.Same.lean ====
module

public import proofs.«01_k».proof.Proof.Run
public import proofs.«01_k».proof.Proof.Gen.KernelIdeal
public import proofs.«01_k».proof.Defs

@[expose] public section

/-!
# The ideal print is the kernel's own text
-/

noncomputable section

namespace RingQ

open Idealize.ShloMosaic Idealize.SL.Sem
open Idealize.ShloMosaic.TcCoe
open Cert.Kernel Cert.Kernel.Gen

variable {F : FTy → Type} [FloatOps F]

theorem body_ideal (arg0 : Memref sig .tc .vmem S4096x128 .f32) (harg0 : arg0.IsWhole) (arg1 : Memref sig .tc .vmem S128x2048 .f32) (harg1 : arg1.IsWhole) (arg2 : Memref sig .tc .vmem S4096x2048 .f32) (harg2 : arg2.IsWhole)
    (arg3 : Memref sig .tc .vmem S2x128x1024 .f32) (harg3 : arg3.IsWhole) (arg4 : Memref sig .tc .vmem S2x128x1024 .f32) (harg4 : arg4.IsWhole)
    (arg5 : Memref sig .tc .vmem S2x128x1024 .f32) (harg5 : arg5.IsWhole) (arg6 : Memref sig .tc .vmem S2x128x1024 .f32) (harg6 : arg6.IsWhole)
    (arg7 arg8 arg9 arg10 : DmaSems sig S2) (arg11 : Sems sig S2) :
    body (F := F) arg0 arg1 arg2 (dirR arg3 arg4 arg7 arg8 arg11) (dirL arg5 arg6 arg9 arg10 arg11)
      = Cert.KernelIdeal.cc0_body (F := F) arg0 harg0 arg1 harg1 arg2 harg2 arg3 harg3 arg4 harg4 arg5 harg5 arg6 harg6 arg7 arg8 arg9 arg10 arg11 := by
  chain_rfl

theorem defs_ideal : Cert.KernelIdeal.defs₀ (F := F) = defs₀ (F := F) := by
  unfold Cert.KernelIdeal.defs₀ defs₀
  congr 1
  funext l p
  match l, p with
  | 0, (t, s) => exact (body_ideal _ _ _ _ _ _ _ _ _ _ _ _ _ _ _ _ _ _ _).symm.trans (body_eq _ _ _ _ _ _ _ _ _ _ _ _ _ _ _ _ _ _ _)

theorem run_ideal (m : (ℓ : Loc nD τ sig) → Buf (Elt F) ℓ) (ρ : Dev nD → PrngReg) :
    θ_run (Cert.KernelIdeal.defs (F := F)) (onTc (τ := τ) (Cert.KernelIdeal.main (F := F))) ⟨m, fun _ => 0, ρ⟩ (fun r =>
    (∀ c : Dev nD, ∀ w : Fin cfg0.W, r.2.mem ((cfg0.win w).arr.view.loc (c : Thread nD τ)) = finalA m c w) ∧ r.2.sem = fun _ => 0) := by
  have h := run_main m ρ
  unfold Cert.Kernel.defs at h
  unfold Cert.KernelIdeal.defs
  rw [defs_ideal]
  exact h

theorem quiet : Cert.quiescent_Kernel := fun m g _ =>
  (θ_run _ _ _).mono (fun r h => ⟨fun c => ⟨(h.1 c (0 : Fin 3)).trans (finalA_0 m c), (h.1 c (1 : Fin 3)).trans (finalA_1 m c)⟩, h.2⟩) (run_main m g)

theorem quiet_ideal : Cert.quiescent_KernelIdeal := fun m g _ =>
  (θ_run _ _ _).mono (fun r h => ⟨fun c => ⟨(h.1 c (0 : Fin 3)).trans (finalA_0 m c), (h.1 c (1 : Fin 3)).trans (finalA_1 m c)⟩, h.2⟩) (run_ideal m g)

end RingQ
-- ==== Proof.Val.lean ====
module

public import proofs.«01_k».proof.Proof.Sim
public import Idealize.ShloMosaic.PureOps.Ideal.Laws
public import Idealize.ShloMosaic.Lib.Pipeline.Value
public import Idealize.ShloMosaic.Lib.MatmulPlain

@[expose] public section

/-!
# The ring's values, over the extended reals

Each payload read at an index.
-/

noncomputable section

namespace RingQ

open Idealize.ShloMosaic Idealize.SL.Sem
open Cert.Kernel Cert.Kernel.Gen
open scoped BigOperators

/-- A slot's index without its leading unit axis. -/
def drp (y : S1x128x1024.Idx) : S128x1024.Idx := fun a => y a.succ
/-- And with it. -/
def lif (z : S128x1024.Idx) : S1x128x1024.Idx := Fin.cons ⟨0, Nat.one_pos⟩ z

theorem drp_lif (z : S128x1024.Idx) : drp (lif z) = z := rfl
theorem lif_drp (y : S1x128x1024.Idx) : lif (drp y) = y := by
  funext a
  refine Fin.cases ?_ (fun b => rfl) a
  apply Fin.ext
  have : (y 0).val < 1 := (y 0).isLt
  show 0 = (y 0).val
  omega

/-- Negatives cut off. -/
def rel (x : EReal) : EReal := max x 0

theorem zero_bits : (Scalar.ofBits .f32 0x00000000#32 : Ideal .f32) = (0 : EReal) := Ideal.ofBits_zero_f32

theorem lower_bits : (FloatOps.ofBits .f32 0xFF800000#32 : Ideal .f32) = (⊥ : EReal) := by
  show Ideal.ofBits .f32 0xFF800000#32 = ⊥
  simp [Ideal.ofBits, Ideal.ieee]

theorem put_at (o : Vec Ideal S128x1024 .f32) (h : S128x1024.ShapeCasts S1x128x1024) (y : S1x128x1024.Idx) :
    (shapeCast S1x128x1024 o h : Vec Ideal S1x128x1024 .f32) y = o (drp y) :=
  shapeCast_addUnit_apply ![128, 1024] o h y
theorem get_at (r : Vec Ideal S1x128x1024 .f32) (h : S1x128x1024.ShapeCasts S128x1024) (z : S128x1024.Idx) :
    (shapeCast S128x1024 r h : Vec Ideal S128x1024 .f32) z = r (lif z) :=
  shapeCast_dropUnit_apply ![128, 1024] r h z

theorem fstV_at (o : Vec Ideal S128x1024 .f32) (y : S1x128x1024.Idx) : fstV o y = o (drp y) := by
  unfold fstV k0_pay38
  exact (put_at _ _ y).trans (congrFun (shapeCast_self o _) (drp y))

theorem addV_at (r : Vec Ideal S1x128x1024 .f32) (o : Vec Ideal S128x1024 .f32) (y : S1x128x1024.Idx) :
    addV r o y = (r y + o (drp y) : EReal) := by
  unfold addV k0_pay40
  refine (put_at _ _ y).trans ?_
  refine congrArg₂ (fun a b : EReal => a + b) ?_ (congrFun (shapeCast_self o _) (drp y))
  exact (get_at r _ (drp y)).trans (congrArg r (lif_drp y))

theorem cpyV_at (r : Vec Ideal S1x128x1024 .f32) (y : S1x128x1024.Idx) : cpyV r y = r y := by
  unfold cpyV k0_pay129 k0_pay128
  exact (put_at _ _ y).trans ((get_at r _ (drp y)).trans (congrArg r (lif_drp y)))

theorem endV_at (r : Vec Ideal S1x128x1024 .f32) (o : Vec Ideal S128x1024 .f32) (z : S128x1024.Idx) :
    endV r o z = rel (r (lif z) + o z) :=
  congrArg₂ (fun a b : EReal => max a b)
    (congrArg₂ (fun a b : EReal => a + b) (get_at r _ z) (congrFun (shapeCast_self o _) z)) zero_bits

theorem rluV_at (r : Vec Ideal S1x128x1024 .f32) (z : S128x1024.Idx) : rluV r z = rel (r (lif z)) :=
  congrArg₂ (fun a b : EReal => max a b) (get_at r _ z) zero_bits

/-- A maximum over every entry, from a lower bound of all. -/
theorem top_of {s t : Shape} {axes : List (Fin s.rank)} (src : FVec Ideal s .f32) (h : s.Reduces axes t) (hφ) (hacc)
    (ht : ∀ b, t.size b = 1) (j : t.Idx) :
    multiReduction .maximumf axes t src 0xFF800000#32 h hφ hacc j = (Finset.univ.sup fun i => (src i : EReal)) := by
  rw [multiReduction_maximumf_eq_fold, lower_bits, Finset.filter_true_of_mem fun i _ => funext fun b => Fin.ext (by
    have := (h.drop i b).isLt; have := (j b).isLt; have := ht b; omega)]
  rfl

/-- The largest of a slot's entries. -/
theorem slot_top (v : FVec Ideal S128x1024 .f32) (h : S1x128x1024.Reduces [1, 2] S1) (hφ) (hacc) (h1 : S128x1024.ShapeCasts S1x128x1024)
    (h2 : S1.ShapeCasts S1x1x1) :
    (extractAt ![0, 0, 0] (shapeCast S1x1x1 (multiReduction (F := Ideal) .maximumf [1, 2] S1 (shapeCast S1x128x1024 v h1) 0xFF800000#32 h hφ hacc) h2)
      inpos_S1x1x1_p0_0_0 : Ideal .f32) = (Finset.univ.sup fun z => (v z : EReal)) := by
  unfold extractAt
  refine (top_of _ h hφ hacc (by decide) _).trans ?_
  refine le_antisymm (Finset.sup_le fun y _ => ?_) (Finset.sup_le fun z _ => ?_)
  · rw [put_at v h1 y]
    exact Finset.le_sup (f := fun z => (v z : EReal)) (Finset.mem_univ (drp y))
  · rw [show v z = (shapeCast S1x128x1024 v h1 : Vec Ideal S1x128x1024 .f32) (lif z) from (put_at v h1 (lif z)).symm]
    exact Finset.le_sup (f := fun y => ((shapeCast S1x128x1024 v h1 : Vec Ideal S1x128x1024 .f32) y : EReal)) (Finset.mem_univ (lif z))

theorem endM_at (r : Vec Ideal S1x128x1024 .f32) (o : Vec Ideal S128x1024 .f32) :
    endM r o = (Finset.univ.sup fun z => (endV r o z : EReal)) := slot_top _ _ _ _ _ _
theorem rluM_at (r : Vec Ideal S1x128x1024 .f32) :
    rluM r = (Finset.univ.sup fun z => (rluV r z : EReal)) := slot_top _ _ _ _ _ _

end RingQ
-- ==== Proof.ValRing.lean ====
module

public import proofs.«01_k».proof.Proof.Val

@[expose] public section

/-!
# The ring's sums

Before every step: what a device has received, which chunks of its output array are done, and the table of their maxima.
-/

noncomputable section

namespace RingQ

open Idealize.ShloMosaic Idealize.SL.Sem
open Cert.Kernel Cert.Kernel.Gen
open scoped BigOperators

/-! ## Places -/

/-- The column half of a place. -/
def half (i : S4096x2048.Idx) : Fin 2 := ⟨(i 1).val / 1024, by have := (i 1).isLt; change (i 1).val < 2048 at this; omega⟩
/-- A place within its chunk. -/
def inCh (i : S4096x2048.Idx) : S128x1024.Idx
  | 0 => (⟨(i 0).val % 128, Nat.mod_lt _ (by decide)⟩ : Fin 128)
  | 1 => (⟨(i 1).val % 1024, Nat.mod_lt _ (by decide)⟩ : Fin 1024)

/-- A chunk's place in the array. -/
def plc (d : Fin 2) (c : Dev nD) (s : ℕ) (z : S128x1024.Idx) : S4096x2048.Idx := (chRect d c s).emb z

theorem plc_row (d : Fin 2) (c : Dev nD) (s : ℕ) (z : S128x1024.Idx) : ((plc d c s z) 0).val = 128 * (ch d c s).val + (z 0).val := by
  simp [plc, Rect.emb, Rect.unit, offD_eq]
theorem plc_col (d : Fin 2) (c : Dev nD) (s : ℕ) (z : S128x1024.Idx) : ((plc d c s z) 1).val = 1024 * d.val + (z 1).val := by
  simp [plc, Rect.emb, Rect.unit, offD_eq]

theorem idx_two {i j : S4096x2048.Idx} (h0 : (i 0).val = (j 0).val) (h1 : (i 1).val = (j 1).val) : i = j := by
  funext a
  match a with
  | 0 => exact Fin.ext h0
  | 1 => exact Fin.ext h1

theorem rowOf_plc (d : Fin 2) (c : Dev nD) (s : ℕ) (z : S128x1024.Idx) : rowOf (plc d c s z) = ch d c s := by
  have hz : (z 0).val < 128 := (z 0).isLt
  apply Fin.ext; simp only [rowOf, plc_row]; omega
theorem half_plc (d : Fin 2) (c : Dev nD) (s : ℕ) (z : S128x1024.Idx) : half (plc d c s z) = d := by
  have hz : (z 1).val < 1024 := (z 1).isLt
  apply Fin.ext; simp only [half, plc_col]; omega
theorem plc_inCh {d : Fin 2} {c : Dev nD} {s : ℕ} {i : S4096x2048.Idx} (hr : rowOf i = ch d c s) (hd : half i = d) :
    plc d c s (inCh i) = i := by
  apply idx_two
  · rw [plc_row, ← hr]; show 128 * ((i 0).val / 128) + (i 0).val % 128 = _; omega
  · rw [plc_col, ← hd]; show 1024 * ((i 1).val / 1024) + (i 1).val % 1024 = _; omega

/-- The chunk a neighbour sends is the one the device handles next. -/
theorem ch_bwd (d : Fin 2) (c : Dev nD) (s : ℕ) : ch d (bwd d c) s = ch d c (s + 1) := by
  have key : ∀ (d : Fin 2) (c : Dev nD) (t : Fin 64), ch d (bwd d c) t.val = ch d c (t.val + 1) := by decide +kernel
  have h1 := key d c ⟨s % 64, Nat.mod_lt _ (by decide)⟩
  have e : ∀ (c : Dev nD) (s : ℕ), ch d c s = ch d c (s % 64) := by
    intro c s
    match d with
    | 0 => simp [ch, chR]
    | 1 => simp [ch, chL]
  have e' : ch d c (s % 64 + 1) = ch d c (s + 1) := by rw [e c (s % 64 + 1), e c (s + 1)]; congr 1; omega
  rw [e, h1, e']

theorem plc_bwd (d : Fin 2) (c : Dev nD) (s : ℕ) (z : S128x1024.Idx) : plc d (bwd d c) s z = plc d c (s + 1) z := by
  apply idx_two
  · rw [plc_row, plc_row, ch_bwd]
  · rw [plc_col, plc_col]

/-- The last 32 steps reach every chunk. -/
theorem ch_onto (d : Fin 2) (c : Dev nD) (k : Fin 32) : ∃ t : Fin 32, ch d c (31 + t.val) = k := by
  revert d c k; decide +kernel
theorem rdCh_at (d : Fin 2) (c : Dev nD) (s : ℕ) (f : OutC Ideal) (z : S128x1024.Idx) : rdCh d c s f z = f (plc d c s z) := rfl

theorem wrCh_at (d : Fin 2) (c : Dev nD) (s : ℕ) (f : OutC Ideal) (v : Vec Ideal S128x1024 .f32) (g : OutC Ideal)
    (hv : ∀ z, v z = g (plc d c s z)) (i : S4096x2048.Idx) :
    wrCh d c s f v i = if rowOf i = ch d c s ∧ half i = d then g i else f i := by
  split_ifs with h
  · have hw : wrCh d c s f v ((oM.access (chRect d c s)).emb (inCh i)) = v (inCh i) :=
      View.write_emb_of_mem (v := oM.access (chRect d c s)) f v (Finset.mem_univ _)
    have hi := plc_inCh h.1 h.2
    rw [show (oM.access (chRect d c s)).emb (inCh i) = i from hi] at hw
    rw [hw, hv, hi]
  · exact View.write_of_not_mem (v := oM.access (chRect d c s)) f v Finset.univ (by
      rw [View.setOn, Finset.mem_map]
      rintro ⟨z, -, hz⟩
      have hz : plc d c s z = i := hz
      exact h ⟨by rw [← hz, rowOf_plc], by rw [← hz, half_plc]⟩)

/-! ## Sums along the ring -/

variable (Y : Dev nD → OutC Ideal)

/-- A device's entry, as a number. -/
def ent (c : Dev nD) (i : S4096x2048.Idx) : EReal := Y c i

/-- The sum over the devices. -/
def tot (i : S4096x2048.Idx) : EReal := ∑ c : Dev nD, ent Y c i

/-- The device `n` places up a direction's stream. -/
def back (d : Fin 2) (c : Dev nD) (n : ℕ) : Dev nD := (bwd d)^[n] c

/-- What a device receives before step `s`. -/
def got (d : Fin 2) (c : Dev nD) (s : ℕ) (i : S4096x2048.Idx) : EReal := ∑ j ∈ Finset.range (min s 32), ent Y (back d c (j + 1)) i
/-- What it sends at step `s`. -/
def snt (d : Fin 2) (c : Dev nD) (s : ℕ) (i : S4096x2048.Idx) : EReal := ∑ j ∈ Finset.range (min (s + 1) 32), ent Y (back d c j) i

theorem snt_bwd (d : Fin 2) (c : Dev nD) (s : ℕ) (i) : snt Y d (bwd d c) s i = got Y d c (s + 1) i := rfl

theorem back_bij (d : Fin 2) (c : Dev nD) : Function.Bijective fun j : Fin 32 => back d c j.val := by
  rw [← Finite.injective_iff_bijective]
  have : ∀ (d : Fin 2) (c : Dev nD) (j k : Fin 32), back d c j.val = back d c k.val → j = k := by decide +kernel
  exact fun j k h => this d c j k h

theorem snt_all (d : Fin 2) (c : Dev nD) {s : ℕ} (hs : 31 ≤ s) (i) : snt Y d c s i = tot Y i := by
  unfold snt tot
  rw [show min (s + 1) 32 = 32 by omega, Finset.sum_range]
  exact (back_bij d c).sum_comp fun e => ent Y e i

theorem got_all (d : Fin 2) (c : Dev nD) {s : ℕ} (hs : 32 ≤ s) (i) : got Y d c s i = tot Y i := by
  obtain ⟨t, rfl⟩ : ∃ t, s = t + 1 := ⟨s - 1, by omega⟩
  rw [← snt_bwd, snt_all Y d _ (by omega)]

theorem snt_add (d : Fin 2) (c : Dev nD) {s : ℕ} (hs : s < 32) (i) : snt Y d c s i = got Y d c s i + ent Y c i := by
  unfold snt got
  rw [show min (s + 1) 32 = s + 1 by omega, show min s 32 = s by omega, Finset.sum_range_succ']
  rfl

/-! ## The output array -/

/-- Whether a place's chunk is done, each direction having run so many steps. -/
def don (c : Dev nD) (a : Fin 2 → ℕ) (i : S4096x2048.Idx) : Prop := ∃ r, 31 ≤ r ∧ r < a (half i) ∧ ch (half i) c r = rowOf i

open Classical in
/-- The array then. -/
def prt (c : Dev nD) (a : Fin 2 → ℕ) : OutC Ideal := fun i => if don c a i then rel (tot Y i) else ent Y c i

theorem prt_early (d : Fin 2) (c : Dev nD) (a : Fin 2 → ℕ) (s : ℕ) (ha : a d = s) (hs : s < 32) (z) :
    prt Y c a (plc d c s z) = ent Y c (plc d c s z) := by
  unfold prt
  rw [if_neg]
  rintro ⟨r, h1, h2, -⟩
  rw [half_plc, ha] at h2
  omega

/-- A received slot holds its sum. -/
def rcvd (d : Fin 2) (c : Dev nD) (s : ℕ) (r : Vec Ideal S1x128x1024 .f32) : Prop :=
  1 ≤ s → ∀ y, (r y : EReal) = got Y d c s (plc d c s (drp y))

theorem fillV_at (d : Fin 2) (c : Dev nD) (a : Fin 2 → ℕ) (s : ℕ) (ha : a d = s) (r) (hr : rcvd Y d c s r) (y) :
    fillV d c s r (prt Y c a) y = snt Y d c s (plc d c s (drp y)) := by
  unfold fillV
  split_ifs with h0 h1
  · rw [fstV_at, rdCh_at, prt_early Y d c a s ha (by omega), snt_add Y d c (by omega)]
    subst h0
    unfold got
    simp
  · rw [addV_at, rdCh_at, prt_early Y d c a s ha h1, snt_add Y d c h1, hr (by omega)]
  · rw [cpyV_at, hr (by omega), snt_all Y d c (by omega), got_all Y d c (by omega)]

theorem endV_tot (d : Fin 2) (c : Dev nD) (a : Fin 2 → ℕ) (s : ℕ) (ha : a d = s) (r) (hr : rcvd Y d c s r) (hs : s = 31) (z) :
    endV r (rdCh d c s (prt Y c a)) z = rel (tot Y (plc d c s z)) := by
  rw [endV_at, rdCh_at, prt_early Y d c a s ha (by omega), hr (by omega), drp_lif, ← snt_add Y d c (by omega), snt_all Y d c (by omega)]

theorem rluV_tot (d : Fin 2) (c : Dev nD) (s : ℕ) (r) (hr : rcvd Y d c s r) (hs : 32 ≤ s) (z) :
    rluV r z = rel (tot Y (plc d c s z)) := by
  rw [rluV_at, hr (by omega), drp_lif, got_all Y d c hs]

open Classical in
theorem fillO_at (d : Fin 2) (c : Dev nD) (a : Fin 2 → ℕ) (s : ℕ) (ha : a d = s) (r) (hr : rcvd Y d c s r) :
    fillO d c s r (prt Y c a) = prt Y c (Function.update a d (s + 1)) := by
  have hd : ∀ i, don c (Function.update a d (s + 1)) i ↔ (31 ≤ s ∧ rowOf i = ch d c s ∧ half i = d) ∨ don c a i := by
    intro i
    unfold don
    by_cases hi : half i = d
    · rw [hi, Function.update_self, ha]
      constructor
      · rintro ⟨r, h1, h2, h3⟩
        rcases Nat.lt_succ_iff_lt_or_eq.mp h2 with h | h
        · exact .inr ⟨r, h1, h, h3⟩
        · subst h; exact .inl ⟨h1, h3.symm, rfl⟩
      · rintro (⟨h1, h2, -⟩ | ⟨r, h1, h2, h3⟩)
        · exact ⟨s, h1, Nat.lt_succ_self s, h2.symm⟩
        · exact ⟨r, h1, by omega, h3⟩
    · rw [Function.update_of_ne hi]
      exact ⟨.inr, fun h => h.elim (fun h => absurd h.2.2 hi) id⟩
  have hw : 31 ≤ s → ∀ v : Vec Ideal S128x1024 .f32, (∀ z, v z = rel (tot Y (plc d c s z))) →
      wrCh d c s (prt Y c a) v = prt Y c (Function.update a d (s + 1)) := by
    intro hs v hv
    funext i
    rw [wrCh_at d c s _ v (fun i => rel (tot Y i)) hv i]
    unfold prt
    by_cases h1 : rowOf i = ch d c s ∧ half i = d
    · rw [if_pos h1, if_pos ((hd i).mpr (.inl ⟨hs, h1⟩))]
    · rw [if_neg h1]
      exact if_congr (by rw [hd i]; exact ⟨.inr, fun h => h.elim (fun h => absurd h.2 h1) id⟩) rfl rfl
  unfold fillO
  split_ifs with h0 h1
  · funext i
    unfold prt
    exact if_congr (by rw [hd i]; exact ⟨.inr, fun h => h.elim (fun h => absurd h.1 (by omega)) id⟩) rfl rfl
  · exact hw (by omega) _ (endV_tot Y d c a s ha r hr h1)
  · exact hw (by omega) _ (rluV_tot Y d c s r hr (by omega))

/-! ## The table -/

/-- The largest entry of a chunk of the result. -/
def pk (d : Fin 2) (c : Dev nD) (s : ℕ) : EReal := Finset.univ.sup fun z => rel (tot Y (plc d c s z))

/-- A table filled so far. -/
def tbl (c : Dev nD) (a : Fin 2 → ℕ) (A : ℕ → Ideal .f32) : Prop :=
  ∀ (d : Fin 2) (r : ℕ), 31 ≤ r → r < a d → A (2 * (r - 31) + d.val) = pk Y d c r

theorem fillA_at (d : Fin 2) (c : Dev nD) (a : Fin 2 → ℕ) (s : ℕ) (ha : a d = s) (r) (hr : rcvd Y d c s r) (A) (hA : tbl Y c a A) :
    tbl Y c (Function.update a d (s + 1)) (fillA d c s r (prt Y c a) A) := by
  have hw : 31 ≤ s → ∀ v : Ideal .f32, v = pk Y d c s → tbl Y c (Function.update a d (s + 1)) (setAt A (2 * (s - 31) + d.val) v) := by
    intro hs v hv e t ht hlt
    by_cases he : e = d ∧ t = s
    · obtain ⟨rfl, rfl⟩ := he
      unfold setAt; rw [if_pos rfl, hv]
    · have hne : 2 * (t - 31) + e.val ≠ 2 * (s - 31) + d.val := by
        intro h
        exact he ⟨Fin.ext (by omega), by omega⟩
      unfold setAt; rw [if_neg hne]
      refine hA e t ht ?_
      by_cases hed : e = d
      · subst hed
        rw [Function.update_self] at hlt
        rw [ha]
        have : t ≠ s := fun h => he ⟨rfl, h⟩
        omega
      · rwa [Function.update_of_ne hed] at hlt
  unfold fillA
  split_ifs with h0 h1
  · intro e t ht hlt
    refine hA e t ht ?_
    by_cases hed : e = d
    · subst hed; rw [Function.update_self] at hlt; omega
    · rwa [Function.update_of_ne hed] at hlt
  · exact hw (by omega) _ ((endM_at _ _).trans (Finset.sup_congr rfl fun z _ => endV_tot Y d c a s ha r hr h1 z))
  · exact hw (by omega) _ ((rluM_at _).trans (Finset.sup_congr rfl fun z _ => rluV_tot Y d c s r hr (by omega) z))

/-! ## Every step -/

/-- What holds before step `s`. -/
def inv (s : ℕ) (c : Dev nD) (p : PSt Ideal) : Prop :=
  p.f = prt Y c (fun _ => s) ∧ tbl Y c (fun _ => s) p.A ∧ ∀ d, rcvd Y d c s (p.rv d)

theorem mid_at (s : ℕ) (c : Dev nD) (p : PSt Ideal) (h : inv Y s c p) (d : Fin 2) :
    ∃ a : Fin 2 → ℕ, a d = s ∧ midO d c s p = prt Y c a := by
  match d with
  | 0 => exact ⟨fun _ => s, rfl, h.1⟩
  | 1 => exact ⟨Function.update (fun _ => s) 0 (s + 1), rfl, by
      show fillO 0 c s (p.rv 0) p.f = _
      rw [h.1, fillO_at Y 0 c (fun _ => s) s rfl _ (h.2.2 0)]⟩

theorem inv_step (s : ℕ) (c : Dev nD) (p : PSt Ideal) (q : Fin 2 → PSt Ideal) (h : inv Y s c p) (hq : ∀ d, inv Y s (bwd d c) (q d)) :
    inv Y (s + 1) c ⟨fillO 1 c s (p.rv 1) (midO 1 c s p),
      fillA 1 c s (p.rv 1) (midO 1 c s p) (fillA 0 c s (p.rv 0) p.f p.A), fun d => sendV d (bwd d c) s (q d)⟩ := by
  have hm : midO 1 c s p = prt Y c (Function.update (fun _ => s) 0 (s + 1)) := by
    show fillO 0 c s (p.rv 0) p.f = _
    rw [h.1, fillO_at Y 0 c (fun _ => s) s rfl _ (h.2.2 0)]
  have hu : Function.update (Function.update (fun _ : Fin 2 => s) 0 (s + 1)) 1 (s + 1) = fun _ => s + 1 := by
    funext d
    match d with
    | 0 => rfl
    | 1 => rfl
  refine ⟨?_, ?_, fun d _ y => ?_⟩
  · show fillO 1 c s (p.rv 1) (midO 1 c s p) = _
    rw [hm, fillO_at Y 1 c _ s rfl _ (h.2.2 1), hu]
  · show tbl Y c _ (fillA 1 c s (p.rv 1) (midO 1 c s p) (fillA 0 c s (p.rv 0) p.f p.A))
    rw [hm, h.1, ← hu]
    exact fillA_at Y 1 c _ s rfl _ (h.2.2 1) _ (fillA_at Y 0 c _ s rfl _ (h.2.2 0) _ h.2.1)
  · obtain ⟨a, ha, hma⟩ := mid_at Y s (bwd d c) (q d) (hq d) d
    show (fillV d (bwd d c) s ((q d).rv d) (midO d (bwd d c) s (q d)) y : EReal) = _
    rw [hma, fillV_at Y d (bwd d c) a s ha _ ((hq d).2.2 d), plc_bwd, snt_bwd]

theorem inv_zero (c : Dev nD) (p : PSt Ideal) (hp : p.f = Y c) : inv Y 0 c p := by
  refine ⟨?_, fun d r h1 h2 => absurd h2 (Nat.not_lt_zero r), fun d h => absurd h (by decide)⟩
  rw [hp]
  funext i
  unfold prt
  rw [if_neg]
  · rfl
  · rintro ⟨r, -, h, -⟩
    exact absurd h (Nat.not_lt_zero r)

theorem inv_pst (s : ℕ) : ∀ c, inv Y s c (pst Y s c) := by
  induction s with
  | zero => intro c; exact inv_zero Y c _ rfl
  | succ s ih => intro c; exact inv_step Y s c (pst Y s c) (fun d => pst Y s (bwd d c)) (ih c) fun d => ih (bwd d c)

/-- After the last step every place is done. -/
theorem prt_done (c : Dev nD) (s : ℕ) (hs : s = 63) (i) : prt Y c (fun _ => s) i = rel (tot Y i) := by
  unfold prt
  obtain ⟨t, ht⟩ := ch_onto (half i) c (rowOf i)
  exact if_pos ⟨31 + t.val, by omega, by have := t.isLt; show 31 + t.val < s; omega, ht⟩

/-- And the table's largest entry is the array's. -/
theorem tbl_done (c : Dev nD) (s : ℕ) (hs : s = 63) (A) (hA : tbl Y c (fun _ => s) A) :
    (Finset.univ.sup fun j : Fin 64 => (A j.val : EReal)) = Finset.univ.sup fun i => rel (tot Y i) := by
  refine le_antisymm (Finset.sup_le fun j _ => ?_) (Finset.sup_le fun i _ => ?_)
  · have hj := j.isLt
    have := hA ⟨j.val % 2, Nat.mod_lt _ (by decide)⟩ (31 + j.val / 2) (by omega) (by show _ < s; omega)
    rw [show 2 * (31 + j.val / 2 - 31) + j.val % 2 = j.val by omega] at this
    rw [this]
    exact Finset.sup_le fun z _ => Finset.le_sup (f := fun i => rel (tot Y i)) (Finset.mem_univ _)
  · obtain ⟨t, ht⟩ := ch_onto (half i) c (rowOf i)
    have ht' := t.isLt
    have hh := (half i).isLt
    have e := hA (half i) (31 + t.val) (by omega) (by show _ < s; omega)
    rw [show 2 * (31 + t.val - 31) + (half i).val = 2 * t.val + (half i).val by omega] at e
    have h1 : rel (tot Y i) ≤ pk Y (half i) c (31 + t.val) := by
      have := Finset.le_sup (f := fun z => rel (tot Y (plc (half i) c (31 + t.val) z))) (Finset.mem_univ (inCh i))
      rw [plc_inCh ht.symm rfl] at this
      exact this
    rw [← e] at h1
    exact h1.trans (Finset.le_sup (f := fun j : Fin 64 => (A j.val : EReal)) (Finset.mem_univ ⟨2 * t.val + (half i).val, by omega⟩))

end RingQ
-- ==== Proof.Grid.lean ====
module

public import Idealize.ShloMosaic.PureOps.Ideal.Laws

@[expose] public section

/-!
# The grid's arithmetic, over the extended reals

Scaling by the largest entry and back, as the kernel forms it and as the reference does.
-/

noncomputable section

namespace RingQ

open Idealize.ShloMosaic

/-- What both leave of an entry `y` whose array's largest entry is `A`. -/
def fin (A y : EReal) : EReal := if A = ⊤ then 0 else y

theorem lim_bits : Ideal.ofBits .f32 0x43E00000#32 = ((448 : ℝ) : EReal) := by
  have h0 : (BitVec.extractLsb' (8 + 23) 1 (0x43E00000#32 : BitVec 32) == 1#1) = false := by decide
  have h1 : (BitVec.extractLsb' 23 8 (0x43E00000#32 : BitVec 32)).toNat = 135 := by decide
  have h2 : (BitVec.extractLsb' 0 23 (0x43E00000#32 : BitVec 32)).toNat = 6291456 := by decide
  show Ideal.ieee 8 23 (0x43E00000#32 : BitVec 32) = _
  unfold Ideal.ieee
  simp only [h0, h1, h2]
  norm_num
theorem shift_bits : Ideal.ofBits .f32 0x49800008#32 = ((1048577 : ℝ) : EReal) := by
  have h0 : (BitVec.extractLsb' (8 + 23) 1 (0x49800008#32 : BitVec 32) == 1#1) = false := by decide
  have h1 : (BitVec.extractLsb' 23 8 (0x49800008#32 : BitVec 32)).toNat = 147 := by decide
  have h2 : (BitVec.extractLsb' 0 23 (0x49800008#32 : BitVec 32)).toNat = 8 := by decide
  show Ideal.ieee 8 23 (0x49800008#32 : BitVec 32) = _
  unfold Ideal.ieee
  simp only [h0, h1, h2]
  norm_num

/-- The kernel's rounding of a scaled entry. -/
def kRound (v : EReal) : EReal := v * ((1048577 : ℝ) : EReal) - (v * ((1048577 : ℝ) : EReal) - v)

theorem kRound_coe (v : ℝ) : kRound v = v := by
  unfold kRound
  rw [← EReal.coe_mul, ← EReal.coe_sub, ← EReal.coe_sub, sub_sub_cancel]

theorem kernel_grid (A y : EReal) (h0 : 0 ≤ y) (hy : y ≤ A) :
    kRound (min (y * Ideal.div ((448 : ℝ) : EReal) A) ((448 : ℝ) : EReal)) * Ideal.div A ((448 : ℝ) : EReal) = fin A y := by
  have h448 : ((448 : ℝ) : EReal) ≠ 0 := by exact_mod_cast (by norm_num : (448 : ℝ) ≠ 0)
  have p448 : (0 : EReal) ≤ ((448 : ℝ) : EReal) := by exact_mod_cast (by norm_num : (0 : ℝ) ≤ 448)
  have z : kRound 0 = 0 := by have := kRound_coe 0; simpa using this
  unfold fin Ideal.div
  rw [if_neg h448]
  by_cases hA : A = 0
  · subst hA
    have : y = 0 := le_antisymm hy h0
    subst this
    rw [zero_mul, min_eq_left p448, z, zero_mul, if_neg (by simp)]
  rw [if_neg hA]
  by_cases hT : A = ⊤
  · subst hT
    rw [EReal.inv_top, mul_zero, mul_zero, min_eq_left p448, z, zero_mul, if_pos rfl]
  rw [if_neg hT]
  lift A to ℝ using ⟨hT, fun h => by rw [h] at hy; exact absurd (h0.trans hy) (by simp)⟩
  lift y to ℝ using ⟨fun h => by rw [h] at hy; exact absurd hy (by simp), fun h => by rw [h] at h0; exact absurd h0 (by simp)⟩
  have hA0 : A ≠ 0 := fun h => hA (by rw [h]; rfl)
  have hy' : y ≤ A := EReal.coe_le_coe_iff.mp hy
  have h0' : 0 ≤ y := EReal.coe_nonneg.mp h0
  have hpos : 0 < A := lt_of_le_of_ne (h0'.trans hy') (Ne.symm hA0)
  have hv : y * (448 * A⁻¹) ≤ 448 := by
    rw [mul_comm 448, ← mul_assoc, ← div_eq_mul_inv]
    have : y / A ≤ 1 := (div_le_one hpos).mpr hy'
    nlinarith
  rw [← EReal.coe_inv, ← EReal.coe_inv, ← EReal.coe_mul, ← EReal.coe_mul, ← EReal.coe_mul, min_eq_left (by exact_mod_cast hv),
    kRound_coe, ← EReal.coe_mul]
  congr 1
  field_simp

/-- The reference's rounding of a scaled entry. -/
def rRound (v : EReal) : EReal := Ideal.sign v * min (max v (-v)) ((448 : ℝ) : EReal)

theorem rRound_of (v : ℝ) (h0 : 0 ≤ v) (h1 : v ≤ 448) : rRound v = v := by
  unfold rRound
  have e : max (v : EReal) (-(v : EReal)) = v := by
    rw [← EReal.coe_neg]; exact max_eq_left (by exact_mod_cast (by linarith : -v ≤ v))
  rw [e, min_eq_left (by exact_mod_cast h1)]
  rcases h0.eq_or_lt with h | h
  · subst h; simp
  · rw [Ideal.sign_of_pos (by exact_mod_cast h), one_mul]

theorem ref_grid (A y : EReal) (h0 : 0 ≤ y) (hy : y ≤ A) :
    rRound (Ideal.div y (Ideal.div A ((448 : ℝ) : EReal))) * Ideal.div A ((448 : ℝ) : EReal) = fin A y := by
  have h448 : ((448 : ℝ) : EReal) ≠ 0 := by exact_mod_cast (by norm_num : (448 : ℝ) ≠ 0)
  have hd : Ideal.div A ((448 : ℝ) : EReal) = A * ((448 : ℝ) : EReal)⁻¹ := by unfold Ideal.div; rw [if_neg h448]
  rw [hd]
  unfold fin
  by_cases hA : A = 0
  · subst hA
    have : y = 0 := le_antisymm hy h0
    subst this
    rw [zero_mul, mul_zero, if_neg (by simp)]
  by_cases hT : A = ⊤
  · subst hT
    have ht : (⊤ : EReal) * ((448 : ℝ) : EReal)⁻¹ = ⊤ := by
      rw [← EReal.coe_inv]; exact EReal.top_mul_coe_of_pos (by norm_num)
    have hz : Ideal.div y ⊤ = 0 := by unfold Ideal.div; rw [if_neg (by simp), EReal.inv_top, mul_zero]
    have h00 := rRound_of 0 le_rfl (by norm_num)
    rw [EReal.coe_zero] at h00
    rw [ht, hz, h00, zero_mul, if_pos rfl]
  rw [if_neg hT]
  lift A to ℝ using ⟨hT, fun h => by rw [h] at hy; exact absurd (h0.trans hy) (by simp)⟩
  lift y to ℝ using ⟨fun h => by rw [h] at hy; exact absurd hy (by simp), fun h => by rw [h] at h0; exact absurd h0 (by simp)⟩
  have hA0 : A ≠ 0 := fun h => hA (by rw [h]; rfl)
  have hy' : y ≤ A := EReal.coe_le_coe_iff.mp hy
  have h0' : 0 ≤ y := EReal.coe_nonneg.mp h0
  have hpos : 0 < A := lt_of_le_of_ne (h0'.trans hy') (Ne.symm hA0)
  have hs : 0 < A * (448 : ℝ)⁻¹ := by positivity
  have hv : y * (A * (448 : ℝ)⁻¹)⁻¹ ≤ 448 := by
    rw [← div_eq_mul_inv, div_le_iff₀ hs]; linarith
  have hv0 : 0 ≤ y * (A * (448 : ℝ)⁻¹)⁻¹ := by positivity
  rw [← EReal.coe_inv, ← EReal.coe_mul]
  unfold Ideal.div
  rw [if_neg (by exact_mod_cast hs.ne'), ← EReal.coe_inv, ← EReal.coe_mul, rRound_of _ hv0 hv, ← EReal.coe_mul]
  congr 1
  field_simp

end RingQ
-- ==== Proof.ValOut.lean ====
module

public import proofs.«01_k».proof.Proof.ValRing
public import proofs.«01_k».proof.Proof.Grid

@[expose] public section

/-!
# The kernel's result, over the extended reals
-/

noncomputable section

namespace RingQ

open Idealize.ShloMosaic Idealize.SL.Sem Idealize.ShloMosaic.ValueIdx
open Cert.Kernel Cert.Kernel.Gen
open scoped BigOperators

/-! ## The table's maximum -/

theorem cat_congr {t : Shape} (a : Fin t.rank) {xs ys : List ((s : Shape) × (s.Idx → EReal))} (e : xs = ys)
    (h : Shape.Concatenates (xs.map (·.1)) t a) (j : t.Idx) :
    concatenate t a xs h j = concatenate t a ys (e ▸ h) j := by subst e; rfl

theorem table_list (A : ℕ → EReal) :
    ((List.range 64).map fun i => (⟨S1, broadcast S1 (A i)⟩ : (s : Shape) × (s.Idx → EReal)))
      = List.ofFn fun n : Fin 64 => (⟨S1, broadcast S1 (A n.val)⟩ : (s : Shape) × (s.Idx → EReal)) := by
  apply List.ext_getElem
  · simp
  · intro n h1 h2
    rw [List.getElem_ofFn, List.getElem_map, List.getElem_range]

theorem cat_at (A : ℕ → EReal) (h) (j : S64.Idx) :
    concatenate S64 0 ((List.range 64).map fun i => (⟨S1, broadcast S1 (A i)⟩ : (s : Shape) × (s.Idx → EReal))) h j = A (j 0).val := by
  rw [cat_congr 0 (table_list A) h j]
  exact concatenate_ofFn_unit_apply (s₁ := S1) (0 : Fin S64.rank) (fun n : Fin 64 => broadcast S1 (A n.val)) _ rfl rfl j
    ⟨(j 0).val, (j 0).isLt⟩ rfl (fun b => ⟨0, by revert b; decide⟩) (fun b hb => absurd (by
      have := b.isLt; exact Fin.ext (by change b.val < 1 at this; show b.val = 0; omega)) hb)

theorem topV_at (A : ℕ → Ideal .f32) : topV A = (Finset.univ.sup fun j : Fin 64 => (A j.val : EReal)) := by
  have key : ∀ i : S1x64.Idx, (shapeCast S1x64
      (concatenate S64 0 ((List.range 64).map fun i => (⟨S1, broadcast S1 (A i)⟩ : (s : Shape) × FVec Ideal s .f32)) (cat64 A))
      shapeCasts_S64_S1x64 : FVec Ideal S1x64 .f32) i = A (i 1).val := fun i =>
    (shapeCast_addUnit_apply ![64] _ shapeCasts_S64_S1x64 i).trans (cat_at A _ _)
  unfold topV extractAt
  refine (top_of _ _ _ _ (by decide) _).trans ?_
  refine le_antisymm (Finset.sup_le fun i _ => ?_) (Finset.sup_le fun j _ => ?_)
  · rw [key i]
    exact Finset.le_sup (f := fun j : Fin 64 => (A j.val : EReal)) (Finset.mem_univ (i 1 : Fin 64))
  · have := Finset.le_sup (f := fun i : S1x64.Idx => ((shapeCast S1x64
      (concatenate S64 0 ((List.range 64).map fun i => (⟨S1, broadcast S1 (A i)⟩ : (s : Shape) × FVec Ideal s .f32)) (cat64 A))
      shapeCasts_S64_S1x64 : FVec Ideal S1x64 .f32) i : EReal)) (Finset.mem_univ (ix2 (0 : Fin 1) j : S1x64.Idx))
    rw [key] at this
    exact this

/-! ## Every entry -/

theorem qntV_at (sc iv : Ideal .f32) (v : Vec Ideal S128x2048 .f32) (y : S128x2048.Idx) :
    qntV sc iv v y = (kRound (min ((v y : EReal) * iv) ((448 : ℝ) : EReal)) * sc : EReal) := by
  unfold qntV k0_pay405 kRound
  rw [shapeCast_self, ← lim_bits, ← shift_bits]
  rfl

theorem rdRow_at (f : OutC Ideal) (i : S4096x2048.Idx) : rdRow (rowOf i) f (inRow i) = f i := congrArg f (emb_row i)

/-- The result of a state that has every sum and every chunk's maximum. -/
theorem result_at (Y : Dev nD → OutC Ideal) (c : Dev nD) (s : ℕ) (hs : s = 63) (p : PSt Ideal) (h : inv Y s c p) (i : S4096x2048.Idx) :
    asm (fun k => qntV (scaleV p.A) (invV p.A) (rdRow k p.f)) i
      = fin (Finset.univ.sup fun i => rel (tot Y i)) (rel (tot Y i)) := by
  have hA : topV p.A = (Finset.univ.sup fun i => rel (tot Y i)) := (topV_at p.A).trans (tbl_done Y c s hs p.A h.2.1)
  have hf : p.f i = rel (tot Y i) := by rw [h.1]; exact prt_done Y c s hs i
  have hsc : scaleV p.A = Ideal.div (topV p.A) ((448 : ℝ) : EReal) := by rw [← lim_bits]; rfl
  have hiv : invV p.A = Ideal.div ((448 : ℝ) : EReal) (topV p.A) := by rw [← lim_bits]; rfl
  show qntV (scaleV p.A) (invV p.A) (rdRow (rowOf i) p.f) (inRow i) = _
  rw [qntV_at, rdRow_at, hf, hsc, hiv, hA]
  exact kernel_grid _ _ (le_max_right _ _) (Finset.le_sup (f := fun i => rel (tot Y i)) (Finset.mem_univ i))

theorem outO_at (Y : Dev nD → OutC Ideal) (c : Dev nD) (i : S4096x2048.Idx) :
    outO Y c i = fin (Finset.univ.sup fun i => rel (tot Y i)) (rel (tot Y i)) :=
  result_at Y c 63 rfl (pst Y 63 c) (inv_pst Y 63 c) i

/-! ## The product -/

theorem dotV_at (x : Vec Ideal S128x128 .f32) (w : Vec Ideal S128x2048 .f32) (a : Fin 128) (b : Fin 2048) :
    dotV x w (ix2 a b) = ∑ k : Fin 128, (x (ix2 a k) * w (ix2 k b) : EReal) := by
  unfold dotV k0_pay2
  rw [shapeCast_self, shapeCast_self]
  refine (Ideal.matmul_plain_apply (M := 128) (K := 128) (N := 2048) (some .fp32) x w _ a b).trans ?_
  refine (congrArg (fun z : EReal => z + _) (zero_bits : _)).trans (zero_add _)

theorem prodO_at (X : Vec Ideal S4096x128 .f32) (W : Vec Ideal S128x2048 .f32) (a : Fin 4096) (b : Fin 2048) :
    prodO (F := Ideal) X W (ix2 a b) = ∑ k : Fin 128, (X (ix2 a k) * W (ix2 k b) : EReal) := by
  have ha := a.isLt
  show dotRow (F := Ideal) X W (rowOf (ix2 a b)) (inRow (ix2 a b)) = _
  unfold dotRow
  rw [show inRow (ix2 a b) = ix2 (⟨a.val % 128, Nat.mod_lt _ (by decide)⟩ : Fin 128) b from by
    funext e
    match e with
    | 0 => rfl
    | 1 => rfl]
  refine (dotV_at _ _ _ _).trans ?_
  refine Finset.sum_congr rfl fun k _ => congrArg₂ (fun p q : EReal => p * q) (congrArg X ?_) (congrArg W ?_)
  · funext e
    apply Fin.ext
    match e with
    | 0 =>
      show 128 * (a.val / 128) + 1 * (a.val % 128) = a.val
      omega
    | 1 =>
      show 0 + 1 * k.val = k.val
      omega
  · funext e
    apply Fin.ext
    match e with
    | 0 =>
      show 0 + 1 * k.val = k.val
      omega
    | 1 =>
      show 0 + 1 * b.val = b.val
      omega

end RingQ
-- ==== Proof.KVal.lean ====
module

public import proofs.«01_k».proof.Proof.ValOut
public import proofs.«01_k».proof.Proof.Run
public import Idealize.ShloMosaic.Lib.Layout
public import Idealize.ShloMosaic.Lib.LayoutAt

@[expose] public section

/-!
# The kernel's result from the whole operands
-/

noncomputable section

namespace RingQ

open Idealize.ShloMosaic Idealize.SL.Sem Idealize.ShloMosaic.ValueIdx
open Idealize.ShloMosaic.Pipeline (Dat Window)
open Cert.Kernel Cert.Kernel.Gen
open scoped BigOperators

variable (m : (ℓ : Loc nD τ sig) → Buf (Elt Ideal) ℓ)

theorem place_0 (t : Fin 1) (y : S4096x128.Idx) : (win0_0.blk t).view.emb y = y := by
  funext a; apply Fin.ext
  show 0 * S4096x128.size a + 1 * (y a).val = (y a).val
  omega
theorem place_1 (t : Fin 1) (y : S128x2048.Idx) : (win0_1.blk t).view.emb y = y := by
  funext a; apply Fin.ext
  show 0 * S128x2048.size a + 1 * (y a).val = (y a).val
  omega
theorem place_2 (t : Fin 1) (y : S4096x2048.Idx) : (win0_2.blk t).view.emb y = y := by
  funext a; apply Fin.ext
  show 0 * S4096x2048.size a + 1 * (y a).val = (y a).val
  omega

/-- What the run leaves in the result array. -/
theorem finalA_2 (c : Dev nD) : finalA m c (2 : Fin 3) = outO (yAt m) c := by
  refine (dats m 0 c).arrAt_eq_of_cover (2 : Fin 3) (outO (yAt m) c) (fun t _ => ?_) fun i => ⟨(0 : Fin 1), rfl, ?_⟩
  · funext y
    have h : (dats m 0 c).flushed (2 : Fin 3) t y = outO (yAt m) c y := rfl
    rw [h]
    exact (congrArg (outO (yAt m) c) (place_2 t y)).symm
  · have := (win0_2.blk (0 : Fin 1)).view.emb_mem_set i
    rw [place_2] at this
    exact this

theorem xAt_eq (c : Dev nD) : xAt m c = m ((c.tc : Thread nD τ).loc main_arg0) :=
  funext fun y => congrArg (m ((c.tc : Thread nD τ).loc main_arg0)) (place_0 0 y)
theorem wAt_eq (c : Dev nD) : wAt m c = m ((c.tc : Thread nD τ).loc main_arg1) :=
  funext fun y => congrArg (m ((c.tc : Thread nD τ).loc main_arg1)) (place_1 0 y)

/-- The whole product. -/
def dotW (L : FVec Ideal ⟨2, ![4096, 4096]⟩ .f32) (R : FVec Ideal ⟨2, ![4096, 2048]⟩ .f32) (i : S4096x2048.Idx) : EReal :=
  ∑ k : Fin 4096, (L (ix2 (i 0 : Fin 4096) k) * R (ix2 k (i 1 : Fin 2048)) : EReal)

theorem tot_eq (L : FVec Ideal ⟨2, ![4096, 4096]⟩ .f32) (R : FVec Ideal ⟨2, ![4096, 2048]⟩ .f32)
    (X : Dev nD → Vec Ideal S4096x128 .f32) (W : Dev nD → Vec Ideal S128x2048 .f32)
    (hX : ∀ c, X c = Layout.block ⟨2, ![4096, 128]⟩ ⟨2, ![4096, 4096]⟩ 1 32 c L)
    (hW : ∀ c, W c = Layout.block ⟨2, ![128, 2048]⟩ ⟨2, ![4096, 2048]⟩ 0 32 c R) (i : S4096x2048.Idx) :
    tot (fun c => prodO (F := Ideal) (X c) (W c)) i = dotW L R i := by
  obtain ⟨a, b, rfl⟩ : ∃ (a : Fin 4096) (b : Fin 2048), i = ix2 a b := ⟨i 0, i 1, by
    funext e
    match e with
    | 0 => rfl
    | 1 => rfl⟩
  have hl : ∀ (c : Fin 32) (k : Fin 128), X c (ix2 a k) = L (ix2 a (finProdFinEquiv (c, k) : Fin 4096)) := by
    intro c k
    rw [hX]
    refine congrArg L ?_
    funext e
    apply Fin.ext
    match e with
    | 0 => exact Layout.Tiles.idx_val_of_ne _ _ _ _ (by decide)
    | 1 => exact (Layout.Tiles.idx_val_self _ _ _ _ rfl).trans (by
        show c.val * 128 + k.val = k.val + 128 * c.val
        omega)
  have hr : ∀ (c : Fin 32) (k : Fin 128), W c (ix2 k b) = R (ix2 (finProdFinEquiv (c, k) : Fin 4096) b) := by
    intro c k
    rw [hW]
    refine congrArg R ?_
    funext e
    apply Fin.ext
    match e with
    | 0 => exact (Layout.Tiles.idx_val_self _ _ _ _ rfl).trans (by
        show c.val * 128 + k.val = k.val + 128 * c.val
        omega)
    | 1 => exact Layout.Tiles.idx_val_of_ne _ _ _ _ (by decide)
  unfold tot dotW
  have hc : ∀ c : Fin 32, ent (fun c => prodO (F := Ideal) (X c) (W c)) c (ix2 a b)
      = ∑ k : Fin 128, (L (ix2 a (finProdFinEquiv (c, k) : Fin 4096)) * R (ix2 (finProdFinEquiv (c, k) : Fin 4096) b) : EReal) := by
    intro c
    have h1 : ent (fun c => prodO (F := Ideal) (X c) (W c)) c (ix2 a b) = (∑ k : Fin 128, (X c (ix2 a k) * W c (ix2 k b) : EReal) : EReal) :=
      prodO_at (X c) (W c) a b
    rw [h1]
    exact Finset.sum_congr rfl fun k _ => congrArg₂ (fun p q : EReal => p * q) (hl c k) (hr c k)
  show (∑ c : Fin 32, (ent (fun c => prodO (F := Ideal) (X c) (W c)) c (ix2 a b) : EReal)) = ∑ k : Fin 4096, (L (ix2 a k) * R (ix2 k b) : EReal)
  rw [Finset.sum_congr rfl fun c _ => hc c]
  rw [← Fintype.sum_prod_type' (fun (c : Fin 32) (k : Fin 128) =>
    (L (ix2 a (finProdFinEquiv (c, k) : Fin 4096)) * R (ix2 (finProdFinEquiv (c, k) : Fin 4096) b) : EReal))]
  exact Equiv.sum_comp (finProdFinEquiv : Fin 32 × Fin 128 ≃ Fin 4096) fun k => (L (ix2 a k) * R (ix2 k b) : EReal)

end RingQ
-- ==== Proof.RefVal.lean ====
module

public import proofs.«01_k».proof.Proof.Grid
public import proofs.«01_k».proof.Proof.Gen.ReferenceIdeal.Frame
public import Idealize.ShloMosaic.Lib.Pipeline.Value
public import Idealize.ShloMosaic.Lib.MatmulPlain
public import Idealize.ShloMosaic.Lib.IdealHost
public import Idealize.ShloMosaic.Lib.StackMember

@[expose] public section

/-!
# The reference's result, over the extended reals
-/

noncomputable section

namespace RingQ.Ref

open Idealize.ShloMosaic Idealize.SL.Sem Idealize.ShloMosaic.ValueIdx
open Idealize.ShloMosaic.Pipeline (Dat)
open Cert.ReferenceIdeal Cert.ReferenceIdeal.Gen
open scoped BigOperators

variable (m : (ℓ : Loc nD τ sig) → Buf (Elt Ideal) ℓ) (ρ : Dev nD → PrngReg) (c : Dev nD)

/-- The arguments. -/
def lhs : FVec Ideal S4096x4096 .f32 := m ((c.tc : Thread nD τ).loc main_arg0)
def rhs : FVec Ideal S4096x2048 .f32 := m ((c.tc : Thread nD τ).loc main_arg1)
/-- The product, negatives cut off, -/
def pos : FVec Ideal S4096x2048 .f32 :=
  maximumf (Host.dotGeneral dot_S4096x4096_S4096x2048_S4096x2048_1_0_0_1_n_n none (lhs m c) (rhs m c))
    (broadcastInDim S4096x2048 ![] bcast_S_S4096x2048 (constant (F := Ideal) S_ .f32 0x00000000#32))
/-- the grid's scale, -/
def scl : FVec Ideal S_ .f32 :=
  Host.divf (Host.reduce FloatOps.maximumf (Host.absf (pos m c)) (constant (F := Ideal) S_ .f32 0xFF800000#32) reducesTo_S4096x2048_S_d0_1 h_S_)
    (constant (F := Ideal) S_ .f32 0x43E00000#32)
/-- the scaled entries, -/
def scd : FVec Ideal S4096x2048 .f32 := Host.divf (pos m c) (broadcastInDim S4096x2048 ![] bcast_S_S4096x2048 (scl m c))
/-- the result, from the rounded sizes. -/
def res (q : FVec Ideal S4096x2048 .f32) : FVec Ideal S4096x2048 .f32 :=
  mulf (mulf (Host.sign (scd m c)) (minimumf q (broadcastInDim S4096x2048 ![] bcast_S_S4096x2048 (constant (F := Ideal) S_ .f32 0x43E00000#32))))
    (broadcastInDim S4096x2048 ![] bcast_S_S4096x2048 (scl m c))

theorem V_v7 : V m c main_v7 = scd m c := by
  show StableHlo.after (List.flatten [hostOps0]) (fun b => m (c, b)) (Proc.devRef .tc main_v7) = _
  simp only [hostOps0, List.flatten_cons, List.flatten_nil, List.append_nil]
  after_results
  rfl
theorem V_v5 : V m c main_v5 = scl m c := by
  show StableHlo.after (List.flatten [hostOps0]) (fun b => m (c, b)) (Proc.devRef .tc main_v5) = _
  simp only [hostOps0, List.flatten_cons, List.flatten_nil, List.append_nil]
  after_results
  rfl
theorem V_v8 : V m c main_v8 = Host.absf (F := Ideal) (s := S4096x2048) (φ := .f32) (scd m c) := by
  show StableHlo.after (List.flatten [hostOps0]) (fun b => m (c, b)) (Proc.devRef .tc main_v8) = _
  simp only [hostOps0, List.flatten_cons, List.flatten_nil, List.append_nil]
  after_results
  rfl

theorem tail_v15 : Pipeline.afterTail₀ cfgs (dats m) 0 (V0 m) [hostOps1] c main_v15 = res m c ((dats m 0 c).arrAt (1 : Fin 2) cfg0.N) := by
  have h9 : Pipeline.withArrays (cfgs 0).spec c (V0 m c) (fun w => (dats m 0 c).arrAt w (cfgs 0).N) (Proc.tc.devRef main_v9)
      = (dats m 0 c).arrAt (1 : Fin 2) cfg0.N :=
    Pipeline.withArrays_arr spec0 launch0.win.arr_inj c (V0 m c) (fun w => (dats m 0 c).arrAt w cfg0.N) (1 : Fin 2)
  have h7 : Pipeline.withArrays (cfgs 0).spec c (V0 m c) (fun w => (dats m 0 c).arrAt w (cfgs 0).N) (Proc.tc.devRef main_v7) = scd m c :=
    (Pipeline.withArrays_of_ne spec0 c (V0 m c) (fun w => (dats m 0 c).arrAt w cfg0.N) main_v7
      (by exact (by decide : ∀ w, Pipeline.arrRef spec0 w ≠ main_v7))).trans (V_v7 m c)
  have h5 : Pipeline.withArrays (cfgs 0).spec c (V0 m c) (fun w => (dats m 0 c).arrAt w (cfgs 0).N) (Proc.tc.devRef main_v5) = scl m c :=
    (Pipeline.withArrays_of_ne spec0 c (V0 m c) (fun w => (dats m 0 c).arrAt w cfg0.N) main_v5
      (by exact (by decide : ∀ w, Pipeline.arrRef spec0 w ≠ main_v5))).trans (V_v5 m c)
  unfold Pipeline.afterTail₀
  simp only [hostOps1, List.flatten_cons, List.flatten_nil, List.append_nil]
  after_results
  rw [h9, h7, h5]
  rfl

/-! ## The region -/

theorem place_0 (t : Fin 1) (y : S4096x2048.Idx) : (win0_0.blk t).view.emb y = y := by
  funext a; apply Fin.ext
  show 0 * S4096x2048.size a + 1 * (y a).val = (y a).val
  omega
theorem place_1 (t : Fin 1) (y : S4096x2048.Idx) : (win0_1.blk t).view.emb y = y := by
  funext a; apply Fin.ext
  show 0 * S4096x2048.size a + 1 * (y a).val = (y a).val
  omega

theorem iblk_eq (t : Fin 1) : iblk m c (0 : Fin 2) t = Host.absf (F := Ideal) (s := S4096x2048) (φ := .f32) (scd m c) := by
  rw [← V_v8]
  exact funext fun y => congrArg (V m c main_v8) (place_0 t y)

/-- Rounding to the grid and back is the identity here. -/
theorem body_id (x : FVec Ideal S4096x2048 .f32) : out0_1 (F := Ideal) x = x := by
  unfold out0_1
  rw [View.canon_unit_zero (by funext a; match a with | 0 => rfl | 1 => rfl),
    View.ld_unit_zero (by funext a; match a with | 0 => rfl | 1 => rfl)]
  unfold k0_pay1
  rw [shapeCast_self]
  rfl

theorem arr_v9 : (dats m 0 c).arrAt (1 : Fin 2) cfg0.N = Host.absf (F := Ideal) (s := S4096x2048) (φ := .f32) (scd m c) := by
  refine (dats m 0 c).arrAt_eq_of_cover (1 : Fin 2) (Host.absf (F := Ideal) (s := S4096x2048) (φ := .f32) (scd m c)) (fun t _ => ?_)
    fun i => ⟨(0 : Fin 1), rfl, ?_⟩
  · have h : (dats m 0 c).after (1 : Fin 2) t = Host.absf (F := Ideal) (s := S4096x2048) (φ := .f32) (scd m c) := by
      rw [after0_1]
      exact (congrArg (out0_1 (F := Ideal)) (iblk_eq m c t)).trans (body_id _)
    funext y
    have e : (dats m 0 c).flushed (1 : Fin 2) t y = (dats m 0 c).after (1 : Fin 2) t y := rfl
    rw [e, h]
    exact (congrArg (Host.absf (F := Ideal) (s := S4096x2048) (φ := .f32) (scd m c)) (place_1 t y)).symm
  · have := (win0_1.blk (0 : Fin 1)).view.emb_mem_set i
    rw [place_1] at this
    exact this

/-! ## At an index -/

/-- The whole product's entry. -/
def dot (i : S4096x2048.Idx) : EReal := ∑ k : Fin 4096, (lhs m c (ix2 (i 0 : Fin 4096) k) * rhs m c (ix2 k (i 1 : Fin 2048)) : EReal)

theorem low_bits : Ideal.ofBits .f32 0xFF800000#32 = ⊥ := by
  simp [Ideal.ofBits, Ideal.ieee]

theorem spread (x : FVec Ideal S_ .f32) (i : S4096x2048.Idx) : broadcastInDim S4096x2048 ![] bcast_S_S4096x2048 x i = x ix0 :=
  broadcastInDim_scalar_apply _ x i

theorem pos_at (i : S4096x2048.Idx) : pos m c i = (max (dot m c i) 0 : EReal) := by
  have h : Host.dotGeneral dot_S4096x4096_S4096x2048_S4096x2048_1_0_0_1_n_n none (lhs m c) (rhs m c) i = dot m c i := by
    have e : i = ix2 (i 0 : Fin 4096) (i 1 : Fin 2048) := by
      funext a
      match a with
      | 0 => rfl
      | 1 => rfl
    rw [e]
    exact StackMember.dotGeneral_plain_apply none (lhs m c) (rhs m c) (i 0) (i 1)
  have z : broadcastInDim S4096x2048 ![] bcast_S_S4096x2048 (constant (F := Ideal) S_ .f32 0x00000000#32) i = (0 : EReal) :=
    (spread _ i).trans Ideal.ofBits_zero_f32
  exact congrArg₂ (fun a b : EReal => max a b) h z

/-- The largest entry. -/
def big : EReal := Finset.univ.sup fun i => max (dot m c i) 0

theorem scl_at (i : S_.Idx) : scl m c i = Ideal.div (big m c) ((448 : ℝ) : EReal) := by
  have hb : Host.reduce (FloatOps.maximumf (F := Ideal) (φ := .f32)) (Host.absf (pos m c)) (constant (F := Ideal) S_ .f32 0xFF800000#32)
      reducesTo_S4096x2048_S_d0_1 h_S_ i = big m c := by
    have e : Host.absf (F := Ideal) (pos m c) = fun i => (max (dot m c i) 0 : EReal) := by
      funext i
      show (max (pos m c i) (-(pos m c i)) : EReal) = _
      rw [pos_at]
      exact max_eq_left ((EReal.neg_le_neg_iff.mpr (le_max_right _ _)).trans (by rw [neg_zero]; exact le_max_right _ _))
    rw [e, Host.reduce_eq_fold (FloatOps.maximumf (F := Ideal) (φ := .f32)), Finset.filter_true_of_mem fun _ _ => funext fun b => b.elim0]
    rw [show (constant (F := Ideal) S_ .f32 0xFF800000#32 (Shape.Idx.first h_S_) : EReal) = ⊥ from low_bits]
    rfl
  show Ideal.div (Host.reduce (FloatOps.maximumf (F := Ideal) (φ := .f32)) (Host.absf (pos m c)) (constant (F := Ideal) S_ .f32 0xFF800000#32)
      reducesTo_S4096x2048_S_d0_1 h_S_ i) (Ideal.ofBits .f32 0x43E00000#32) = _
  rw [hb, lim_bits]

theorem res_at (i : S4096x2048.Idx) : res m c (Host.absf (scd m c)) i = fin (big m c) (max (dot m c i) 0) := by
  have hs : scd m c i = Ideal.div (max (dot m c i) 0) (Ideal.div (big m c) ((448 : ℝ) : EReal)) :=
    congrArg₂ Ideal.div (pos_at m c i) ((spread _ i).trans (scl_at m c ix0))
  have hl : broadcastInDim S4096x2048 ![] bcast_S_S4096x2048 (constant (F := Ideal) S_ .f32 0x43E00000#32) i = ((448 : ℝ) : EReal) :=
    (spread _ i).trans lim_bits
  have hc : broadcastInDim S4096x2048 ![] bcast_S_S4096x2048 (scl m c) i = Ideal.div (big m c) ((448 : ℝ) : EReal) :=
    (spread _ i).trans (scl_at m c ix0)
  rw [← ref_grid (big m c) (max (dot m c i) 0) (le_max_right _ _) (Finset.le_sup (f := fun i => max (dot m c i) 0) (Finset.mem_univ i))]
  rw [← hs]
  refine congrArg₂ (fun a b : EReal => a * b) ?_ hc
  exact congrArg (fun l : EReal => Ideal.sign (scd m c i) * min (max (scd m c i) (-(scd m c i))) l) hl

/-! ## The run -/

/-- The reference ends with every entry so. -/
theorem run_value : θ_run defs (onTc (τ := τ) (main (F := Ideal))) ⟨m, fun _ => 0, ρ⟩ (fun r => ∀ c : Dev nD,
    r.2.mem ((c.tc : Thread nD τ).loc main_v15) = (fun i => fin (big m c) (max (dot m c i) 0) : S4096x2048.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(((h c).2 main_v15 (Pipeline.mem_restRefs_of main_v15 (by decide) (by decide))).trans
        ((tail_v15 m c).trans ((congrArg (res m c) (arr_v9 m c)).trans (funext fun i => res_at m c i)))),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c))⟩) (run_main m ρ)

end RingQ.Ref
-- ==== Proof.Alg.lean ====
module

public import proofs.«01_k».proof.Defs
public import proofs.«01_k».proof.Proof.Same
public import proofs.«01_k».proof.Proof.KVal
public import proofs.«01_k».proof.Proof.RefVal

@[expose] public section

/-!
# Kernel and reference agree
-/

noncomputable section

namespace RingQ

open Idealize.ShloMosaic Idealize.SL.Sem Idealize.ShloMosaic.ValueIdx
open Cert.Kernel Cert.Kernel.Gen

/-- Every entry both programs end with. -/
def common (L : FVec Ideal ⟨2, ![4096, 4096]⟩ .f32) (R : FVec Ideal ⟨2, ![4096, 2048]⟩ .f32) (i : S4096x2048.Idx) : EReal :=
  fin (Finset.univ.sup fun i => rel (dotW L R i)) (rel (dotW L R i))

theorem out_common (m : (ℓ : Loc nD τ sig) → Buf (Elt Ideal) ℓ)
    (L : FVec Ideal ⟨2, ![4096, 4096]⟩ .f32) (R : FVec Ideal ⟨2, ![4096, 2048]⟩ .f32)
    (hX : ∀ c : Dev nD, m ((c.tc : Thread nD τ).loc main_arg0) = Layout.block ⟨2, ![4096, 128]⟩ ⟨2, ![4096, 4096]⟩ 1 32 c L)
    (hW : ∀ c : Dev nD, m ((c.tc : Thread nD τ).loc main_arg1) = Layout.block ⟨2, ![128, 2048]⟩ ⟨2, ![4096, 2048]⟩ 0 32 c R) (c : Dev nD) :
    finalA m c (2 : Fin 3) = common L R := by
  rw [finalA_2]
  funext i
  have ht : ∀ i, tot (yAt m) i = dotW L R i := fun i =>
    tot_eq L R (xAt m) (wAt m) (fun c => (xAt_eq m c).trans (hX c)) (fun c => (wAt_eq m c).trans (hW c)) i
  refine (outO_at (yAt m) c i).trans ?_
  simp only [ht]
  rfl

theorem agree : Cert.algebraic_KernelIdeal_ReferenceIdeal := fun m g m' g' _ h =>
  ⟨common (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run _ _ _).mono (fun r hr c => ⟨(hr.1 c (2 : Fin 3)).trans (out_common m _ _ (fun c => (h c).1) (fun c => (h c).2) c),
      (hr.1 c (0 : Fin 3)).trans (finalA_0 m c), (hr.1 c (1 : Fin 3)).trans (finalA_1 m c)⟩) (run_ideal m g),
    (θ_run _ _ _).mono (fun r hr => hr 0) (Ref.run_value m' g')⟩

end RingQ
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Same
public import proofs.«01_k».proof.Proof.Alg
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, RingQ.quiet, RingQ.quiet_ideal, fun m g _ => Cert.ReferenceIdeal.Gen.frame m g, trivial, RingQ.agree⟩

end Cert.Proof

end
